-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 12288]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S7x96x768 : Shape := ⟨3, ![7, 96, 768]⟩
abbrev S7 : Shape := ⟨1, ![7]⟩
abbrev S_ : Shape := ⟨0, ![]⟩
abbrev S96x768 : Shape := ⟨2, ![96, 768]⟩
abbrev S96x1536 : Shape := ⟨2, ![96, 1536]⟩
abbrev S1 : Shape := ⟨1, ![1]⟩
abbrev S1x96x768 : Shape := ⟨3, ![1, 96, 768]⟩

abbrev nBuf : Space → Nat
  | .hbm => 4
  | .vmem => 7
  | .smem => 0
  | _ => 0

abbrev bufTy : (tb : Table) → Fin (tcTables nBuf tb) → BufTy
  | .hbm, ⟨0, _⟩ => ⟨S768x768, .bf16⟩
  | .hbm, ⟨1, _⟩ => ⟨S768x1536, .bf16⟩
  | .hbm, ⟨2, _⟩ => ⟨S1536x768, .bf16⟩
  | .hbm, ⟨3, _⟩ => ⟨S768x768, .bf16⟩
  | .local _ .vmem, ⟨0, _⟩ => ⟨S768x768, .bf16⟩
  | .local _ .vmem, ⟨1, _⟩ => ⟨S768x1536, .bf16⟩
  | .local _ .vmem, ⟨2, _⟩ => ⟨S1536x768, .bf16⟩
  | .local _ .vmem, ⟨3, _⟩ => ⟨S768x768, .bf16⟩
  | .local _ .vmem, ⟨4, _⟩ => ⟨S768x768, .f32⟩
  | .local _ .vmem, ⟨5, _⟩ => ⟨S768x768, .bf16⟩
  | .local _ .vmem, ⟨6, _⟩ => ⟨S7x96x768, .bf16⟩
  | _, _ => ⟨S768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_84 : BitVec 32 := 0#32
  let v126 : BitVec 1 := Scalar.cmpi .ne v2 c0_i32_84
  let v127 : BitVec 32 := Scalar.extui v126
  let c0_i32_85 : BitVec 32 := 0#32
  let v128 : BitVec 1 := Scalar.cmpi .ne v127 c0_i32_85
  v128

def k0_off1 (d0 : Dev nD) : Fin 1 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v113 : BitVec 32 := Scalar.subi c0_i32_75 v2
  let c8_i32_76 : BitVec 32 := 8#32
  let v114 : BitVec 32 := Scalar.addi v113 c8_i32_76
  let c8_i32_77 : BitVec 32 := 8#32
  let c0_i32_78 : BitVec 32 := 0#32
  let v115 : BitVec 1 := Scalar.cmpi .eq c8_i32_77 c0_i32_78
  let c1_i32_79 : BitVec 32 := 1#32
  let v116 : BitVec 32 := Scalar.select v115 c1_i32_79 c8_i32_77
  let v117 : BitVec 32 := Scalar.remsi v114 v116
  let c0_i32_81 : BitVec 32 := 0#32
  let v119 : BitVec 1 := Scalar.cmpi .slt v117 c0_i32_81
  let c0_i32_82 : BitVec 32 := 0#32
  let v120 : BitVec 1 := Scalar.cmpi .slt v116 c0_i32_82
  let v121 : BitVec 1 := Scalar.xori v119 v120
  let c0_i32_80 : BitVec 32 := 0#32
  let v118 : BitVec 1 := Scalar.cmpi .ne v117 c0_i32_80
  let v122 : BitVec 1 := Scalar.andi v121 v118
  let v123 : BitVec 32 := Scalar.addi v117 v116
  let v124 : BitVec 32 := Scalar.select v122 v123 v117
  let c1_i32_83 : BitVec 32 := 1#32
  let v125 : BitVec 32 := Scalar.subi v124 c1_i32_83
  ![v125.toNat]
def k0_off2 (d0 : Dev nD) : Fin 3 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v113 : BitVec 32 := Scalar.subi c0_i32_75 v2
  let c8_i32_76 : BitVec 32 := 8#32
  let v114 : BitVec 32 := Scalar.addi v113 c8_i32_76
  let c8_i32_77 : BitVec 32 := 8#32
  let c0_i32_78 : BitVec 32 := 0#32
  let v115 : BitVec 1 := Scalar.cmpi .eq c8_i32_77 c0_i32_78
  let c1_i32_79 : BitVec 32 := 1#32
  let v116 : BitVec 32 := Scalar.select v115 c1_i32_79 c8_i32_77
  let v117 : BitVec 32 := Scalar.remsi v114 v116
  let c0_i32_81 : BitVec 32 := 0#32
  let v119 : BitVec 1 := Scalar.cmpi .slt v117 c0_i32_81
  let c0_i32_82 : BitVec 32 := 0#32
  let v120 : BitVec 1 := Scalar.cmpi .slt v116 c0_i32_82
  let v121 : BitVec 1 := Scalar.xori v119 v120
  let c0_i32_80 : BitVec 32 := 0#32
  let v118 : BitVec 1 := Scalar.cmpi .ne v117 c0_i32_80
  let v122 : BitVec 1 := Scalar.andi v121 v118
  let v123 : BitVec 32 := Scalar.addi v117 v116
  let v124 : BitVec 32 := Scalar.select v122 v123 v117
  let c1_i32_83 : BitVec 32 := 1#32
  let v125 : BitVec 32 := Scalar.subi v124 c1_i32_83
  let c0_i32_541 : BitVec 32 := 0#32
  let c0_i32_542 : BitVec 32 := 0#32
  ![v125.toNat, 0, 0]
def k0_dev8 : Nat :=
  let c0_i32_540 : BitVec 32 := 0#32
  let c0_i32_538 : BitVec 32 := 0#32
  let c1_i32_539 : BitVec 32 := 1#32
  let v689 : BitVec 32 := Scalar.muli c0_i32_538 c1_i32_539
  let v690 : BitVec 32 := Scalar.addi c0_i32_540 v689
  v690.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_103 : BitVec 32 := 1#32
  let v156 : BitVec 1 := Scalar.cmpi .ne v2 c1_i32_103
  let v157 : BitVec 32 := Scalar.extui v156
  let c0_i32_104 : BitVec 32 := 0#32
  let v158 : BitVec 1 := Scalar.cmpi .ne v157 c0_i32_104
  v158

def k0_off3 (d0 : Dev nD) : Fin 1 → Nat :=
  let c1_i32_94 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v143 : BitVec 32 := Scalar.subi c1_i32_94 v2
  let c8_i32_95 : BitVec 32 := 8#32
  let v144 : BitVec 32 := Scalar.addi v143 c8_i32_95
  let c8_i32_96 : BitVec 32 := 8#32
  let c0_i32_97 : BitVec 32 := 0#32
  let v145 : BitVec 1 := Scalar.cmpi .eq c8_i32_96 c0_i32_97
  let c1_i32_98 : BitVec 32 := 1#32
  let v146 : BitVec 32 := Scalar.select v145 c1_i32_98 c8_i32_96
  let v147 : BitVec 32 := Scalar.remsi v144 v146
  let c0_i32_100 : BitVec 32 := 0#32
  let v149 : BitVec 1 := Scalar.cmpi .slt v147 c0_i32_100
  let c0_i32_101 : BitVec 32 := 0#32
  let v150 : BitVec 1 := Scalar.cmpi .slt v146 c0_i32_101
  let v151 : BitVec 1 := Scalar.xori v149 v150
  let c0_i32_99 : BitVec 32 := 0#32
  let v148 : BitVec 1 := Scalar.cmpi .ne v147 c0_i32_99
  let v152 : BitVec 1 := Scalar.andi v151 v148
  let v153 : BitVec 32 := Scalar.addi v147 v146
  let v154 : BitVec 32 := Scalar.select v152 v153 v147
  let c1_i32_102 : BitVec 32 := 1#32
  let v155 : BitVec 32 := Scalar.subi v154 c1_i32_102
  ![v155.toNat]
def k0_off4 (d0 : Dev nD) : Fin 3 → Nat :=
  let c1_i32_94 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v143 : BitVec 32 := Scalar.subi c1_i32_94 v2
  let c8_i32_95 : BitVec 32 := 8#32
  let v144 : BitVec 32 := Scalar.addi v143 c8_i32_95
  let c8_i32_96 : BitVec 32 := 8#32
  let c0_i32_97 : BitVec 32 := 0#32
  let v145 : BitVec 1 := Scalar.cmpi .eq c8_i32_96 c0_i32_97
  let c1_i32_98 : BitVec 32 := 1#32
  let v146 : BitVec 32 := Scalar.select v145 c1_i32_98 c8_i32_96
  let v147 : BitVec 32 := Scalar.remsi v144 v146
  let c0_i32_100 : BitVec 32 := 0#32
  let v149 : BitVec 1 := Scalar.cmpi .slt v147 c0_i32_100
  let c0_i32_101 : BitVec 32 := 0#32
  let v150 : BitVec 1 := Scalar.cmpi .slt v146 c0_i32_101
  let v151 : BitVec 1 := Scalar.xori v149 v150
  let c0_i32_99 : BitVec 32 := 0#32
  let v148 : BitVec 1 := Scalar.cmpi .ne v147 c0_i32_99
  let v152 : BitVec 1 := Scalar.andi v151 v148
  let v153 : BitVec 32 := Scalar.addi v147 v146
  let v154 : BitVec 32 := Scalar.select v152 v153 v147
  let c1_i32_102 : BitVec 32 := 1#32
  let v155 : BitVec 32 := Scalar.subi v154 c1_i32_102
  let c0_i32_541 : BitVec 32 := 0#32
  let c0_i32_542 : BitVec 32 := 0#32
  ![v155.toNat, 0, 0]
def k0_dev9 : Nat :=
  let c0_i32_540 : BitVec 32 := 0#32
  let c1_i32_538 : BitVec 32 := 1#32
  let c1_i32_539 : BitVec 32 := 1#32
  let v689 : BitVec 32 := Scalar.muli c1_i32_538 c1_i32_539
  let v690 : BitVec 32 := Scalar.addi c0_i32_540 v689
  v690.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_122 : BitVec 32 := 2#32
  let v186 : BitVec 1 := Scalar.cmpi .ne v2 c2_i32_122
  let v187 : BitVec 32 := Scalar.extui v186
  let c0_i32_123 : BitVec 32 := 0#32
  let v188 : BitVec 1 := Scalar.cmpi .ne v187 c0_i32_123
  v188

def k0_off5 (d0 : Dev nD) : Fin 1 → Nat :=
  let c2_i32_113 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v173 : BitVec 32 := Scalar.subi c2_i32_113 v2
  let c8_i32_114 : BitVec 32 := 8#32
  let v174 : BitVec 32 := Scalar.addi v173 c8_i32_114
  let c8_i32_115 : BitVec 32 := 8#32
  let c0_i32_116 : BitVec 32 := 0#32
  let v175 : BitVec 1 := Scalar.cmpi .eq c8_i32_115 c0_i32_116
  let c1_i32_117 : BitVec 32 := 1#32
  let v176 : BitVec 32 := Scalar.select v175 c1_i32_117 c8_i32_115
  let v177 : BitVec 32 := Scalar.remsi v174 v176
  let c0_i32_119 : BitVec 32 := 0#32
  let v179 : BitVec 1 := Scalar.cmpi .slt v177 c0_i32_119
  let c0_i32_120 : BitVec 32 := 0#32
  let v180 : BitVec 1 := Scalar.cmpi .slt v176 c0_i32_120
  let v181 : BitVec 1 := Scalar.xori v179 v180
  let c0_i32_118 : BitVec 32 := 0#32
  let v178 : BitVec 1 := Scalar.cmpi .ne v177 c0_i32_118
  let v182 : BitVec 1 := Scalar.andi v181 v178
  let v183 : BitVec 32 := Scalar.addi v177 v176
  let v184 : BitVec 32 := Scalar.select v182 v183 v177
  let c1_i32_121 : BitVec 32 := 1#32
  let v185 : BitVec 32 := Scalar.subi v184 c1_i32_121
  ![v185.toNat]
def k0_off6 (d0 : Dev nD) : Fin 3 → Nat :=
  let c2_i32_113 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v173 : BitVec 32 := Scalar.subi c2_i32_113 v2
  let c8_i32_114 : BitVec 32 := 8#32
  let v174 : BitVec 32 := Scalar.addi v173 c8_i32_114
  let c8_i32_115 : BitVec 32 := 8#32
  let c0_i32_116 : BitVec 32 := 0#32
  let v175 : BitVec 1 := Scalar.cmpi .eq c8_i32_115 c0_i32_116
  let c1_i32_117 : BitVec 32 := 1#32
  let v176 : BitVec 32 := Scalar.select v175 c1_i32_117 c8_i32_115
  let v177 : BitVec 32 := Scalar.remsi v174 v176
  let c0_i32_119 : BitVec 32 := 0#32
  let v179 : BitVec 1 := Scalar.cmpi .slt v177 c0_i32_119
  let c0_i32_120 : BitVec 32 := 0#32
  let v180 : BitVec 1 := Scalar.cmpi .slt v176 c0_i32_120
  let v181 : BitVec 1 := Scalar.xori v179 v180
  let c0_i32_118 : BitVec 32 := 0#32
  let v178 : BitVec 1 := Scalar.cmpi .ne v177 c0_i32_118
  let v182 : BitVec 1 := Scalar.andi v181 v178
  let v183 : BitVec 32 := Scalar.addi v177 v176
  let v184 : BitVec 32 := Scalar.select v182 v183 v177
  let c1_i32_121 : BitVec 32 := 1#32
  let v185 : BitVec 32 := Scalar.subi v184 c1_i32_121
  let c0_i32_541 : BitVec 32 := 0#32
  let c0_i32_542 : BitVec 32 := 0#32
  ![v185.toNat, 0, 0]
def k0_dev10 : Nat :=
  let c0_i32_540 : BitVec 32 := 0#32
  let c2_i32_538 : BitVec 32 := 2#32
  let c1_i32_539 : BitVec 32 := 1#32
  let v689 : BitVec 32 := Scalar.muli c2_i32_538 c1_i32_539
  let v690 : BitVec 32 := Scalar.addi c0_i32_540 v689
  v690.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_141 : BitVec 32 := 3#32
  let v216 : BitVec 1 := Scalar.cmpi .ne v2 c3_i32_141
  let v217 : BitVec 32 := Scalar.extui v216
  let c0_i32_142 : BitVec 32 := 0#32
  let v218 : BitVec 1 := Scalar.cmpi .ne v217 c0_i32_142
  v218

def k0_off7 (d0 : Dev nD) : Fin 1 → Nat :=
  let c3_i32_132 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v203 : BitVec 32 := Scalar.subi c3_i32_132 v2
  let c8_i32_133 : BitVec 32 := 8#32
  let v204 : BitVec 32 := Scalar.addi v203 c8_i32_133
  let c8_i32_134 : BitVec 32 := 8#32
  let c0_i32_135 : BitVec 32 := 0#32
  let v205 : BitVec 1 := Scalar.cmpi .eq c8_i32_134 c0_i32_135
  let c1_i32_136 : BitVec 32 := 1#32
  let v206 : BitVec 32 := Scalar.select v205 c1_i32_136 c8_i32_134
  let v207 : BitVec 32 := Scalar.remsi v204 v206
  let c0_i32_138 : BitVec 32 := 0#32
  let v209 : BitVec 1 := Scalar.cmpi .slt v207 c0_i32_138
  let c0_i32_139 : BitVec 32 := 0#32
  let v210 : BitVec 1 := Scalar.cmpi .slt v206 c0_i32_139
  let v211 : BitVec 1 := Scalar.xori v209 v210
  let c0_i32_137 : BitVec 32 := 0#32
  let v208 : BitVec 1 := Scalar.cmpi .ne v207 c0_i32_137
  let v212 : BitVec 1 := Scalar.andi v211 v208
  let v213 : BitVec 32 := Scalar.addi v207 v206
  let v214 : BitVec 32 := Scalar.select v212 v213 v207
  let c1_i32_140 : BitVec 32 := 1#32
  let v215 : BitVec 32 := Scalar.subi v214 c1_i32_140
  ![v215.toNat]
def k0_off8 (d0 : Dev nD) : Fin 3 → Nat :=
  let c3_i32_132 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v203 : BitVec 32 := Scalar.subi c3_i32_132 v2
  let c8_i32_133 : BitVec 32 := 8#32
  let v204 : BitVec 32 := Scalar.addi v203 c8_i32_133
  let c8_i32_134 : BitVec 32 := 8#32
  let c0_i32_135 : BitVec 32 := 0#32
  let v205 : BitVec 1 := Scalar.cmpi .eq c8_i32_134 c0_i32_135
  let c1_i32_136 : BitVec 32 := 1#32
  let v206 : BitVec 32 := Scalar.select v205 c1_i32_136 c8_i32_134
  let v207 : BitVec 32 := Scalar.remsi v204 v206
  let c0_i32_138 : BitVec 32 := 0#32
  let v209 : BitVec 1 := Scalar.cmpi .slt v207 c0_i32_138
  let c0_i32_139 : BitVec 32 := 0#32
  let v210 : BitVec 1 := Scalar.cmpi .slt v206 c0_i32_139
  let v211 : BitVec 1 := Scalar.xori v209 v210
  let c0_i32_137 : BitVec 32 := 0#32
  let v208 : BitVec 1 := Scalar.cmpi .ne v207 c0_i32_137
  let v212 : BitVec 1 := Scalar.andi v211 v208
  let v213 : BitVec 32 := Scalar.addi v207 v206
  let v214 : BitVec 32 := Scalar.select v212 v213 v207
  let c1_i32_140 : BitVec 32 := 1#32
  let v215 : BitVec 32 := Scalar.subi v214 c1_i32_140
  let c0_i32_541 : BitVec 32 := 0#32
  let c0_i32_542 : BitVec 32 := 0#32
  ![v215.toNat, 0, 0]
def k0_dev11 : Nat :=
  let c0_i32_540 : BitVec 32 := 0#32
  let c3_i32_538 : BitVec 32 := 3#32
  let c1_i32_539 : BitVec 32 := 1#32
  let v689 : BitVec 32 := Scalar.muli c3_i32_538 c1_i32_539
  let v690 : BitVec 32 := Scalar.addi c0_i32_540 v689
  v690.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_160 : BitVec 32 := 4#32
  let v246 : BitVec 1 := Scalar.cmpi .ne v2 c4_i32_160
  let v247 : BitVec 32 := Scalar.extui v246
  let c0_i32_161 : BitVec 32 := 0#32
  let v248 : BitVec 1 := Scalar.cmpi .ne v247 c0_i32_161
  v248

def k0_off9 (d0 : Dev nD) : Fin 1 → Nat :=
  let c4_i32_151 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v233 : BitVec 32 := Scalar.subi c4_i32_151 v2
  let c8_i32_152 : BitVec 32 := 8#32
  let v234 : BitVec 32 := Scalar.addi v233 c8_i32_152
  let c8_i32_153 : BitVec 32 := 8#32
  let c0_i32_154 : BitVec 32 := 0#32
  let v235 : BitVec 1 := Scalar.cmpi .eq c8_i32_153 c0_i32_154
  let c1_i32_155 : BitVec 32 := 1#32
  let v236 : BitVec 32 := Scalar.select v235 c1_i32_155 c8_i32_153
  let v237 : BitVec 32 := Scalar.remsi v234 v236
  let c0_i32_157 : BitVec 32 := 0#32
  let v239 : BitVec 1 := Scalar.cmpi .slt v237 c0_i32_157
  let c0_i32_158 : BitVec 32 := 0#32
  let v240 : BitVec 1 := Scalar.cmpi .slt v236 c0_i32_158
  let v241 : BitVec 1 := Scalar.xori v239 v240
  let c0_i32_156 : BitVec 32 := 0#32
  let v238 : BitVec 1 := Scalar.cmpi .ne v237 c0_i32_156
  let v242 : BitVec 1 := Scalar.andi v241 v238
  let v243 : BitVec 32 := Scalar.addi v237 v236
  let v244 : BitVec 32 := Scalar.select v242 v243 v237
  let c1_i32_159 : BitVec 32 := 1#32
  let v245 : BitVec 32 := Scalar.subi v244 c1_i32_159
  ![v245.toNat]
def k0_off10 (d0 : Dev nD) : Fin 3 → Nat :=
  let c4_i32_151 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v233 : BitVec 32 := Scalar.subi c4_i32_151 v2
  let c8_i32_152 : BitVec 32 := 8#32
  let v234 : BitVec 32 := Scalar.addi v233 c8_i32_152
  let c8_i32_153 : BitVec 32 := 8#32
  let c0_i32_154 : BitVec 32 := 0#32
  let v235 : BitVec 1 := Scalar.cmpi .eq c8_i32_153 c0_i32_154
  let c1_i32_155 : BitVec 32 := 1#32
  let v236 : BitVec 32 := Scalar.select v235 c1_i32_155 c8_i32_153
  let v237 : BitVec 32 := Scalar.remsi v234 v236
  let c0_i32_157 : BitVec 32 := 0#32
  let v239 : BitVec 1 := Scalar.cmpi .slt v237 c0_i32_157
  let c0_i32_158 : BitVec 32 := 0#32
  let v240 : BitVec 1 := Scalar.cmpi .slt v236 c0_i32_158
  let v241 : BitVec 1 := Scalar.xori v239 v240
  let c0_i32_156 : BitVec 32 := 0#32
  let v238 : BitVec 1 := Scalar.cmpi .ne v237 c0_i32_156
  let v242 : BitVec 1 := Scalar.andi v241 v238
  let v243 : BitVec 32 := Scalar.addi v237 v236
  let v244 : BitVec 32 := Scalar.select v242 v243 v237
  let c1_i32_159 : BitVec 32 := 1#32
  let v245 : BitVec 32 := Scalar.subi v244 c1_i32_159
  let c0_i32_541 : BitVec 32 := 0#32
  let c0_i32_542 : BitVec 32 := 0#32
  ![v245.toNat, 0, 0]
def k0_dev12 : Nat :=
  let c0_i32_540 : BitVec 32 := 0#32
  let c4_i32_538 : BitVec 32 := 4#32
  let c1_i32_539 : BitVec 32 := 1#32
  let v689 : BitVec 32 := Scalar.muli c4_i32_538 c1_i32_539
  let v690 : BitVec 32 := Scalar.addi c0_i32_540 v689
  v690.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_179 : BitVec 32 := 5#32
  let v276 : BitVec 1 := Scalar.cmpi .ne v2 c5_i32_179
  let v277 : BitVec 32 := Scalar.extui v276
  let c0_i32_180 : BitVec 32 := 0#32
  let v278 : BitVec 1 := Scalar.cmpi .ne v277 c0_i32_180
  v278

def k0_off11 (d0 : Dev nD) : Fin 1 → Nat :=
  let c5_i32_170 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v263 : BitVec 32 := Scalar.subi c5_i32_170 v2
  let c8_i32_171 : BitVec 32 := 8#32
  let v264 : BitVec 32 := Scalar.addi v263 c8_i32_171
  let c8_i32_172 : BitVec 32 := 8#32
  let c0_i32_173 : BitVec 32 := 0#32
  let v265 : BitVec 1 := Scalar.cmpi .eq c8_i32_172 c0_i32_173
  let c1_i32_174 : BitVec 32 := 1#32
  let v266 : BitVec 32 := Scalar.select v265 c1_i32_174 c8_i32_172
  let v267 : BitVec 32 := Scalar.remsi v264 v266
  let c0_i32_176 : BitVec 32 := 0#32
  let v269 : BitVec 1 := Scalar.cmpi .slt v267 c0_i32_176
  let c0_i32_177 : BitVec 32 := 0#32
  let v270 : BitVec 1 := Scalar.cmpi .slt v266 c0_i32_177
  let v271 : BitVec 1 := Scalar.xori v269 v270
  let c0_i32_175 : BitVec 32 := 0#32
  let v268 : BitVec 1 := Scalar.cmpi .ne v267 c0_i32_175
  let v272 : BitVec 1 := Scalar.andi v271 v268
  let v273 : BitVec 32 := Scalar.addi v267 v266
  let v274 : BitVec 32 := Scalar.select v272 v273 v267
  let c1_i32_178 : BitVec 32 := 1#32
  let v275 : BitVec 32 := Scalar.subi v274 c1_i32_178
  ![v275.toNat]
def k0_off12 (d0 : Dev nD) : Fin 3 → Nat :=
  let c5_i32_170 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v263 : BitVec 32 := Scalar.subi c5_i32_170 v2
  let c8_i32_171 : BitVec 32 := 8#32
  let v264 : BitVec 32 := Scalar.addi v263 c8_i32_171
  let c8_i32_172 : BitVec 32 := 8#32
  let c0_i32_173 : BitVec 32 := 0#32
  let v265 : BitVec 1 := Scalar.cmpi .eq c8_i32_172 c0_i32_173
  let c1_i32_174 : BitVec 32 := 1#32
  let v266 : BitVec 32 := Scalar.select v265 c1_i32_174 c8_i32_172
  let v267 : BitVec 32 := Scalar.remsi v264 v266
  let c0_i32_176 : BitVec 32 := 0#32
  let v269 : BitVec 1 := Scalar.cmpi .slt v267 c0_i32_176
  let c0_i32_177 : BitVec 32 := 0#32
  let v270 : BitVec 1 := Scalar.cmpi .slt v266 c0_i32_177
  let v271 : BitVec 1 := Scalar.xori v269 v270
  let c0_i32_175 : BitVec 32 := 0#32
  let v268 : BitVec 1 := Scalar.cmpi .ne v267 c0_i32_175
  let v272 : BitVec 1 := Scalar.andi v271 v268
  let v273 : BitVec 32 := Scalar.addi v267 v266
  let v274 : BitVec 32 := Scalar.select v272 v273 v267
  let c1_i32_178 : BitVec 32 := 1#32
  let v275 : BitVec 32 := Scalar.subi v274 c1_i32_178
  let c0_i32_541 : BitVec 32 := 0#32
  let c0_i32_542 : BitVec 32 := 0#32
  ![v275.toNat, 0, 0]
def k0_dev13 : Nat :=
  let c0_i32_540 : BitVec 32 := 0#32
  let c5_i32_538 : BitVec 32 := 5#32
  let c1_i32_539 : BitVec 32 := 1#32
  let v689 : BitVec 32 := Scalar.muli c5_i32_538 c1_i32_539
  let v690 : BitVec 32 := Scalar.addi c0_i32_540 v689
  v690.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_198 : BitVec 32 := 6#32
  let v306 : BitVec 1 := Scalar.cmpi .ne v2 c6_i32_198
  let v307 : BitVec 32 := Scalar.extui v306
  let c0_i32_199 : BitVec 32 := 0#32
  let v308 : BitVec 1 := Scalar.cmpi .ne v307 c0_i32_199
  v308

def k0_off13 (d0 : Dev nD) : Fin 1 → Nat :=
  let c6_i32_189 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v293 : BitVec 32 := Scalar.subi c6_i32_189 v2
  let c8_i32_190 : BitVec 32 := 8#32
  let v294 : BitVec 32 := Scalar.addi v293 c8_i32_190
  let c8_i32_191 : BitVec 32 := 8#32
  let c0_i32_192 : BitVec 32 := 0#32
  let v295 : BitVec 1 := Scalar.cmpi .eq c8_i32_191 c0_i32_192
  let c1_i32_193 : BitVec 32 := 1#32
  let v296 : BitVec 32 := Scalar.select v295 c1_i32_193 c8_i32_191
  let v297 : BitVec 32 := Scalar.remsi v294 v296
  let c0_i32_195 : BitVec 32 := 0#32
  let v299 : BitVec 1 := Scalar.cmpi .slt v297 c0_i32_195
  let c0_i32_196 : BitVec 32 := 0#32
  let v300 : BitVec 1 := Scalar.cmpi .slt v296 c0_i32_196
  let v301 : BitVec 1 := Scalar.xori v299 v300
  let c0_i32_194 : BitVec 32 := 0#32
  let v298 : BitVec 1 := Scalar.cmpi .ne v297 c0_i32_194
  let v302 : BitVec 1 := Scalar.andi v301 v298
  let v303 : BitVec 32 := Scalar.addi v297 v296
  let v304 : BitVec 32 := Scalar.select v302 v303 v297
  let c1_i32_197 : BitVec 32 := 1#32
  let v305 : BitVec 32 := Scalar.subi v304 c1_i32_197
  ![v305.toNat]
def k0_off14 (d0 : Dev nD) : Fin 3 → Nat :=
  let c6_i32_189 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v293 : BitVec 32 := Scalar.subi c6_i32_189 v2
  let c8_i32_190 : BitVec 32 := 8#32
  let v294 : BitVec 32 := Scalar.addi v293 c8_i32_190
  let c8_i32_191 : BitVec 32 := 8#32
  let c0_i32_192 : BitVec 32 := 0#32
  let v295 : BitVec 1 := Scalar.cmpi .eq c8_i32_191 c0_i32_192
  let c1_i32_193 : BitVec 32 := 1#32
  let v296 : BitVec 32 := Scalar.select v295 c1_i32_193 c8_i32_191
  let v297 : BitVec 32 := Scalar.remsi v294 v296
  let c0_i32_195 : BitVec 32 := 0#32
  let v299 : BitVec 1 := Scalar.cmpi .slt v297 c0_i32_195
  let c0_i32_196 : BitVec 32 := 0#32
  let v300 : BitVec 1 := Scalar.cmpi .slt v296 c0_i32_196
  let v301 : BitVec 1 := Scalar.xori v299 v300
  let c0_i32_194 : BitVec 32 := 0#32
  let v298 : BitVec 1 := Scalar.cmpi .ne v297 c0_i32_194
  let v302 : BitVec 1 := Scalar.andi v301 v298
  let v303 : BitVec 32 := Scalar.addi v297 v296
  let v304 : BitVec 32 := Scalar.select v302 v303 v297
  let c1_i32_197 : BitVec 32 := 1#32
  let v305 : BitVec 32 := Scalar.subi v304 c1_i32_197
  let c0_i32_541 : BitVec 32 := 0#32
  let c0_i32_542 : BitVec 32 := 0#32
  ![v305.toNat, 0, 0]
def k0_dev14 : Nat :=
  let c0_i32_540 : BitVec 32 := 0#32
  let c6_i32_538 : BitVec 32 := 6#32
  let c1_i32_539 : BitVec 32 := 1#32
  let v689 : BitVec 32 := Scalar.muli c6_i32_538 c1_i32_539
  let v690 : BitVec 32 := Scalar.addi c0_i32_540 v689
  v690.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_217 : BitVec 32 := 7#32
  let v336 : BitVec 1 := Scalar.cmpi .ne v2 c7_i32_217
  let v337 : BitVec 32 := Scalar.extui v336
  let c0_i32_218 : BitVec 32 := 0#32
  let v338 : BitVec 1 := Scalar.cmpi .ne v337 c0_i32_218
  v338

def k0_off15 (d0 : Dev nD) : Fin 1 → Nat :=
  let c7_i32_208 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v323 : BitVec 32 := Scalar.subi c7_i32_208 v2
  let c8_i32_209 : BitVec 32 := 8#32
  let v324 : BitVec 32 := Scalar.addi v323 c8_i32_209
  let c8_i32_210 : BitVec 32 := 8#32
  let c0_i32_211 : BitVec 32 := 0#32
  let v325 : BitVec 1 := Scalar.cmpi .eq c8_i32_210 c0_i32_211
  let c1_i32_212 : BitVec 32 := 1#32
  let v326 : BitVec 32 := Scalar.select v325 c1_i32_212 c8_i32_210
  let v327 : BitVec 32 := Scalar.remsi v324 v326
  let c0_i32_214 : BitVec 32 := 0#32
  let v329 : BitVec 1 := Scalar.cmpi .slt v327 c0_i32_214
  let c0_i32_215 : BitVec 32 := 0#32
  let v330 : BitVec 1 := Scalar.cmpi .slt v326 c0_i32_215
  let v331 : BitVec 1 := Scalar.xori v329 v330
  let c0_i32_213 : BitVec 32 := 0#32
  let v328 : BitVec 1 := Scalar.cmpi .ne v327 c0_i32_213
  let v332 : BitVec 1 := Scalar.andi v331 v328
  let v333 : BitVec 32 := Scalar.addi v327 v326
  let v334 : BitVec 32 := Scalar.select v332 v333 v327
  let c1_i32_216 : BitVec 32 := 1#32
  let v335 : BitVec 32 := Scalar.subi v334 c1_i32_216
  ![v335.toNat]
def k0_off16 (d0 : Dev nD) : Fin 3 → Nat :=
  let c7_i32_208 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v323 : BitVec 32 := Scalar.subi c7_i32_208 v2
  let c8_i32_209 : BitVec 32 := 8#32
  let v324 : BitVec 32 := Scalar.addi v323 c8_i32_209
  let c8_i32_210 : BitVec 32 := 8#32
  let c0_i32_211 : BitVec 32 := 0#32
  let v325 : BitVec 1 := Scalar.cmpi .eq c8_i32_210 c0_i32_211
  let c1_i32_212 : BitVec 32 := 1#32
  let v326 : BitVec 32 := Scalar.select v325 c1_i32_212 c8_i32_210
  let v327 : BitVec 32 := Scalar.remsi v324 v326
  let c0_i32_214 : BitVec 32 := 0#32
  let v329 : BitVec 1 := Scalar.cmpi .slt v327 c0_i32_214
  let c0_i32_215 : BitVec 32 := 0#32
  let v330 : BitVec 1 := Scalar.cmpi .slt v326 c0_i32_215
  let v331 : BitVec 1 := Scalar.xori v329 v330
  let c0_i32_213 : BitVec 32 := 0#32
  let v328 : BitVec 1 := Scalar.cmpi .ne v327 c0_i32_213
  let v332 : BitVec 1 := Scalar.andi v331 v328
  let v333 : BitVec 32 := Scalar.addi v327 v326
  let v334 : BitVec 32 := Scalar.select v332 v333 v327
  let c1_i32_216 : BitVec 32 := 1#32
  let v335 : BitVec 32 := Scalar.subi v334 c1_i32_216
  let c0_i32_541 : BitVec 32 := 0#32
  let c0_i32_542 : BitVec 32 := 0#32
  ![v335.toNat, 0, 0]
def k0_dev15 : Nat :=
  let c0_i32_540 : BitVec 32 := 0#32
  let c7_i32_538 : BitVec 32 := 7#32
  let c1_i32_539 : BitVec 32 := 1#32
  let v689 : BitVec 32 := Scalar.muli c7_i32_538 c1_i32_539
  let v690 : BitVec 32 := Scalar.addi c0_i32_540 v689
  v690.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32 : BitVec 32 := 96#32
  let v339 : BitVec 32 := Scalar.muli v2 c96_i32
  let v340 : Index := Scalar.indexCast v339
  let c0_219 : Index := 0#32
  ![v340.toNat, 0]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_220 : BitVec 32 := 96#32
  let v342 : BitVec 32 := Scalar.muli v2 c96_i32_220
  let c0_i32_228 : BitVec 32 := 0#32
  ![v342.toNat, 0]
def k0_dev16 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_300 : BitVec 32 := 1#32
  let v430 : BitVec 32 := Scalar.addi v2 c1_i32_300
  let c8_i32_301 : BitVec 32 := 8#32
  let c0_i32_302 : BitVec 32 := 0#32
  let v431 : BitVec 1 := Scalar.cmpi .eq c8_i32_301 c0_i32_302
  let c1_i32_303 : BitVec 32 := 1#32
  let v432 : BitVec 32 := Scalar.select v431 c1_i32_303 c8_i32_301
  let v433 : BitVec 32 := Scalar.remsi v430 v432
  let c0_i32_305 : BitVec 32 := 0#32
  let v435 : BitVec 1 := Scalar.cmpi .slt v433 c0_i32_305
  let c0_i32_306 : BitVec 32 := 0#32
  let v436 : BitVec 1 := Scalar.cmpi .slt v432 c0_i32_306
  let v437 : BitVec 1 := Scalar.xori v435 v436
  let c0_i32_304 : BitVec 32 := 0#32
  let v434 : BitVec 1 := Scalar.cmpi .ne v433 c0_i32_304
  let v438 : BitVec 1 := Scalar.andi v437 v434
  let v439 : BitVec 32 := Scalar.addi v433 v432
  let v440 : BitVec 32 := Scalar.select v438 v439 v433
  let c1_i32_311 : BitVec 32 := 1#32
  let v443 : BitVec 32 := Scalar.muli v440 c1_i32_311
  let v444 : BitVec 32 := Scalar.addi c0_i32_312 v443
  v444.toNat
def k0_dev17 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_315 : BitVec 32 := 2#32
  let v451 : BitVec 32 := Scalar.addi v2 c2_i32_315
  let c8_i32_316 : BitVec 32 := 8#32
  let c0_i32_317 : BitVec 32 := 0#32
  let v452 : BitVec 1 := Scalar.cmpi .eq c8_i32_316 c0_i32_317
  let c1_i32_318 : BitVec 32 := 1#32
  let v453 : BitVec 32 := Scalar.select v452 c1_i32_318 c8_i32_316
  let v454 : BitVec 32 := Scalar.remsi v451 v453
  let c0_i32_320 : BitVec 32 := 0#32
  let v456 : BitVec 1 := Scalar.cmpi .slt v454 c0_i32_320
  let c0_i32_321 : BitVec 32 := 0#32
  let v457 : BitVec 1 := Scalar.cmpi .slt v453 c0_i32_321
  let v458 : BitVec 1 := Scalar.xori v456 v457
  let c0_i32_319 : BitVec 32 := 0#32
  let v455 : BitVec 1 := Scalar.cmpi .ne v454 c0_i32_319
  let v459 : BitVec 1 := Scalar.andi v458 v455
  let v460 : BitVec 32 := Scalar.addi v454 v453
  let v461 : BitVec 32 := Scalar.select v459 v460 v454
  let c1_i32_326 : BitVec 32 := 1#32
  let v464 : BitVec 32 := Scalar.muli v461 c1_i32_326
  let v465 : BitVec 32 := Scalar.addi c0_i32_327 v464
  v465.toNat
def k0_dev18 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_330 : BitVec 32 := 3#32
  let v472 : BitVec 32 := Scalar.addi v2 c3_i32_330
  let c8_i32_331 : BitVec 32 := 8#32
  let c0_i32_332 : BitVec 32 := 0#32
  let v473 : BitVec 1 := Scalar.cmpi .eq c8_i32_331 c0_i32_332
  let c1_i32_333 : BitVec 32 := 1#32
  let v474 : BitVec 32 := Scalar.select v473 c1_i32_333 c8_i32_331
  let v475 : BitVec 32 := Scalar.remsi v472 v474
  let c0_i32_335 : BitVec 32 := 0#32
  let v477 : BitVec 1 := Scalar.cmpi .slt v475 c0_i32_335
  let c0_i32_336 : BitVec 32 := 0#32
  let v478 : BitVec 1 := Scalar.cmpi .slt v474 c0_i32_336
  let v479 : BitVec 1 := Scalar.xori v477 v478
  let c0_i32_334 : BitVec 32 := 0#32
  let v476 : BitVec 1 := Scalar.cmpi .ne v475 c0_i32_334
  let v480 : BitVec 1 := Scalar.andi v479 v476
  let v481 : BitVec 32 := Scalar.addi v475 v474
  let v482 : BitVec 32 := Scalar.select v480 v481 v475
  let c1_i32_341 : BitVec 32 := 1#32
  let v485 : BitVec 32 := Scalar.muli v482 c1_i32_341
  let v486 : BitVec 32 := Scalar.addi c0_i32_342 v485
  v486.toNat
def k0_dev19 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_345 : BitVec 32 := 4#32
  let v493 : BitVec 32 := Scalar.addi v2 c4_i32_345
  let c8_i32_346 : BitVec 32 := 8#32
  let c0_i32_347 : BitVec 32 := 0#32
  let v494 : BitVec 1 := Scalar.cmpi .eq c8_i32_346 c0_i32_347
  let c1_i32_348 : BitVec 32 := 1#32
  let v495 : BitVec 32 := Scalar.select v494 c1_i32_348 c8_i32_346
  let v496 : BitVec 32 := Scalar.remsi v493 v495
  let c0_i32_350 : BitVec 32 := 0#32
  let v498 : BitVec 1 := Scalar.cmpi .slt v496 c0_i32_350
  let c0_i32_351 : BitVec 32 := 0#32
  let v499 : BitVec 1 := Scalar.cmpi .slt v495 c0_i32_351
  let v500 : BitVec 1 := Scalar.xori v498 v499
  let c0_i32_349 : BitVec 32 := 0#32
  let v497 : BitVec 1 := Scalar.cmpi .ne v496 c0_i32_349
  let v501 : BitVec 1 := Scalar.andi v500 v497
  let v502 : BitVec 32 := Scalar.addi v496 v495
  let v503 : BitVec 32 := Scalar.select v501 v502 v496
  let c1_i32_356 : BitVec 32 := 1#32
  let v506 : BitVec 32 := Scalar.muli v503 c1_i32_356
  let v507 : BitVec 32 := Scalar.addi c0_i32_357 v506
  v507.toNat
def k0_dev20 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_360 : BitVec 32 := 5#32
  let v514 : BitVec 32 := Scalar.addi v2 c5_i32_360
  let c8_i32_361 : BitVec 32 := 8#32
  let c0_i32_362 : BitVec 32 := 0#32
  let v515 : BitVec 1 := Scalar.cmpi .eq c8_i32_361 c0_i32_362
  let c1_i32_363 : BitVec 32 := 1#32
  let v516 : BitVec 32 := Scalar.select v515 c1_i32_363 c8_i32_361
  let v517 : BitVec 32 := Scalar.remsi v514 v516
  let c0_i32_365 : BitVec 32 := 0#32
  let v519 : BitVec 1 := Scalar.cmpi .slt v517 c0_i32_365
  let c0_i32_366 : BitVec 32 := 0#32
  let v520 : BitVec 1 := Scalar.cmpi .slt v516 c0_i32_366
  let v521 : BitVec 1 := Scalar.xori v519 v520
  let c0_i32_364 : BitVec 32 := 0#32
  let v518 : BitVec 1 := Scalar.cmpi .ne v517 c0_i32_364
  let v522 : BitVec 1 := Scalar.andi v521 v518
  let v523 : BitVec 32 := Scalar.addi v517 v516
  let v524 : BitVec 32 := Scalar.select v522 v523 v517
  let c1_i32_371 : BitVec 32 := 1#32
  let v527 : BitVec 32 := Scalar.muli v524 c1_i32_371
  let v528 : BitVec 32 := Scalar.addi c0_i32_372 v527
  v528.toNat
def k0_dev21 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_375 : BitVec 32 := 6#32
  let v535 : BitVec 32 := Scalar.addi v2 c6_i32_375
  let c8_i32_376 : BitVec 32 := 8#32
  let c0_i32_377 : BitVec 32 := 0#32
  let v536 : BitVec 1 := Scalar.cmpi .eq c8_i32_376 c0_i32_377
  let c1_i32_378 : BitVec 32 := 1#32
  let v537 : BitVec 32 := Scalar.select v536 c1_i32_378 c8_i32_376
  let v538 : BitVec 32 := Scalar.remsi v535 v537
  let c0_i32_380 : BitVec 32 := 0#32
  let v540 : BitVec 1 := Scalar.cmpi .slt v538 c0_i32_380
  let c0_i32_381 : BitVec 32 := 0#32
  let v541 : BitVec 1 := Scalar.cmpi .slt v537 c0_i32_381
  let v542 : BitVec 1 := Scalar.xori v540 v541
  let c0_i32_379 : BitVec 32 := 0#32
  let v539 : BitVec 1 := Scalar.cmpi .ne v538 c0_i32_379
  let v543 : BitVec 1 := Scalar.andi v542 v539
  let v544 : BitVec 32 := Scalar.addi v538 v537
  let v545 : BitVec 32 := Scalar.select v543 v544 v538
  let c1_i32_386 : BitVec 32 := 1#32
  let v548 : BitVec 32 := Scalar.muli v545 c1_i32_386
  let v549 : BitVec 32 := Scalar.addi c0_i32_387 v548
  v549.toNat
def k0_dev22 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_390 : BitVec 32 := 7#32
  let v556 : BitVec 32 := Scalar.addi v2 c7_i32_390
  let c8_i32_391 : BitVec 32 := 8#32
  let c0_i32_392 : BitVec 32 := 0#32
  let v557 : BitVec 1 := Scalar.cmpi .eq c8_i32_391 c0_i32_392
  let c1_i32_393 : BitVec 32 := 1#32
  let v558 : BitVec 32 := Scalar.select v557 c1_i32_393 c8_i32_391
  let v559 : BitVec 32 := Scalar.remsi v556 v558
  let c0_i32_395 : BitVec 32 := 0#32
  let v561 : BitVec 1 := Scalar.cmpi .slt v559 c0_i32_395
  let c0_i32_396 : BitVec 32 := 0#32
  let v562 : BitVec 1 := Scalar.cmpi .slt v558 c0_i32_396
  let v563 : BitVec 1 := Scalar.xori v561 v562
  let c0_i32_394 : BitVec 32 := 0#32
  let v560 : BitVec 1 := Scalar.cmpi .ne v559 c0_i32_394
  let v564 : BitVec 1 := Scalar.andi v563 v560
  let v565 : BitVec 32 := Scalar.addi v559 v558
  let v566 : BitVec 32 := Scalar.select v564 v565 v559
  let c1_i32_401 : BitVec 32 := 1#32
  let v569 : BitVec 32 := Scalar.muli v566 c1_i32_401
  let v570 : BitVec 32 := Scalar.addi c0_i32_402 v569
  v570.toNat
abbrev stage0_0 : Fin 1 → Memref sig .tc .vmem S768x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S768x768 : Shape := ⟨2, ![768, 768]⟩
abbrev S768x12288 : Shape := ⟨2, ![768, 12288]⟩
abbrev S12288x768 : Shape := ⟨2, ![12288, 768]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S768x768, .bf16⟩
  | .hbm, ⟨1, _⟩ => ⟨S768x12288, .bf16⟩
  | .hbm, ⟨2, _⟩ => ⟨S12288x768, .bf16⟩
  | .hbm, ⟨3, _⟩ => ⟨S768x768, .f32⟩
  | .hbm, ⟨4, _⟩ => ⟨S768x12288, .f32⟩
  | .hbm, ⟨5, _⟩ => ⟨S12288x768, .f32⟩
  | .hbm, ⟨6, _⟩ => ⟨S768x12288, .f32⟩
  | .hbm, ⟨7, _⟩ => ⟨S768x12288, .bf16⟩
  | .hbm, ⟨8, _⟩ => ⟨S768x12288, .f32⟩
  | .hbm, ⟨9, _⟩ => ⟨S_, .f32⟩
  | .hbm, ⟨10, _⟩ => ⟨S768x12288, .f32⟩
  | .hbm, ⟨11, _⟩ => ⟨S768x12288, .f32⟩
  | .hbm, ⟨12, _⟩ => ⟨S768x768, .f32⟩
  | .hbm, ⟨13, _⟩ => ⟨S768x768, .bf16⟩
  | _, _ => ⟨S768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Mesh.lean ====
/-
# The eight devices: who follows whom, and the closed forms of the printed device and slot numbers

Device `c` signals and sends to the seven devices after it, `fwd c 0 … fwd c 6`, and hears from the seven before
it, `bwd c 0 … bwd c 6`. A partial product for device `j` travels in `c`'s landing slot number `slot c j`.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Mlp

open Cert.KernelIdeal Cert.KernelIdeal.Gen
open Idealize.ShloMosaic

set_option backward.proofsInPublic true in
/-- The device `k + 1` places after `c`. -/
def fwd (c : Dev nD) (k : Fin 7) : Dev nD := ⟨(c.val + (k.val + 1)) % 8, Nat.mod_lt _ (by decide)⟩
set_option backward.proofsInPublic true in
/-- The device `k + 1` places before `c`. -/
def bwd (c : Dev nD) (k : Fin 7) : Dev nD := ⟨(c.val + (7 - k.val)) % 8, Nat.mod_lt _ (by decide)⟩
set_option backward.proofsInPublic true in
/-- How many places after `c` device `j` stands, less one (for `j` other than `c`). -/
def slot (c j : Dev nD) : Fin 7 := ⟨(j.val + 7 - c.val) % 8 % 7, Nat.mod_lt _ (by decide)⟩
set_option backward.proofsInPublic true in
/-- The number of the way back: `k + 1` places forward and `rev k + 1` more make a full turn. -/
def rev (k : Fin 7) : Fin 7 := ⟨6 - k.val, by omega⟩

theorem fwd_bwd (c : Dev nD) (k : Fin 7) : fwd (bwd c k) k = c := by revert c k; decide
theorem bwd_fwd (c : Dev nD) (k : Fin 7) : bwd (fwd c k) k = c := by revert c k; decide
theorem fwd_rev (c : Dev nD) (k : Fin 7) : fwd c (rev k) = bwd c k := by revert c k; decide
theorem fwd_fwd_rev (c : Dev nD) (k : Fin 7) : fwd (fwd c k) (rev k) = c := by revert c k; decide
theorem rev_rev (k : Fin 7) : rev (rev k) = k := by revert k; decide
theorem fwd_ne (c : Dev nD) (k : Fin 7) : fwd c k ≠ c := by revert c k; decide
theorem bwd_ne (c : Dev nD) (k : Fin 7) : bwd c k ≠ c := by revert c k; decide
theorem slot_fwd (c : Dev nD) (k : Fin 7) : slot c (fwd c k) = k := by revert c k; decide
theorem fwd_slot (c j : Dev nD) (h : j ≠ c) : fwd c (slot c j) = j := by revert c j; decide
theorem fwd_inj (c : Dev nD) : Function.Injective (fwd c) := fun a b h => by rw [← slot_fwd c a, h, slot_fwd]
theorem bwd_slot (c j : Dev nD) (h : j ≠ c) : bwd j (slot c j) = c := by revert c j; decide

/-- All devices `k + 1` places on, as a permutation of the mesh. -/
def turn (k : Fin 7) : Dev nD ≃ Dev nD := ⟨fun c => fwd c k, fun c => bwd c k, fun c => bwd_fwd c k, fun c => fwd_bwd c k⟩

def revE : Fin 7 ≃ Fin 7 := ⟨rev, rev, rev_rev, rev_rev⟩

/-- The seven devices after `c` are the devices other than `c`. -/
theorem univ_erase (c : Dev nD) : Finset.univ.erase c = (Finset.univ : Finset (Fin 7)).map ⟨fwd c, fwd_inj c⟩ := by
  ext j
  simp only [Finset.mem_erase, Finset.mem_univ, and_true, Finset.mem_map, true_and, Function.Embedding.coeFn_mk]
  exact ⟨fun h => ⟨slot c j, fwd_slot c j h⟩, fun ⟨k, hk⟩ => hk ▸ fwd_ne c k⟩

/-! ## The printed device numbers -/

theorem dev1 (c : Dev nD) : (⟨k0_dev1 c, k0_dev1_lt c⟩ : Dev nD) = fwd c 0 := by revert c; decide +kernel
theorem dev2 (c : Dev nD) : (⟨k0_dev2 c, k0_dev2_lt c⟩ : Dev nD) = fwd c 1 := by revert c; decide +kernel
theorem dev3 (c : Dev nD) : (⟨k0_dev3 c, k0_dev3_lt c⟩ : Dev nD) = fwd c 2 := by revert c; decide +kernel
theorem dev4 (c : Dev nD) : (⟨k0_dev4 c, k0_dev4_lt c⟩ : Dev nD) = fwd c 3 := by revert c; decide +kernel
theorem dev5 (c : Dev nD) : (⟨k0_dev5 c, k0_dev5_lt c⟩ : Dev nD) = fwd c 4 := by revert c; decide +kernel
theorem dev6 (c : Dev nD) : (⟨k0_dev6 c, k0_dev6_lt c⟩ : Dev nD) = fwd c 5 := by revert c; decide +kernel
theorem dev7 (c : Dev nD) : (⟨k0_dev7 c, k0_dev7_lt c⟩ : Dev nD) = fwd c 6 := by revert c; decide +kernel
theorem dev16 (c : Dev nD) : (⟨k0_dev16 c, k0_dev16_lt c⟩ : Dev nD) = fwd c 0 := by revert c; decide +kernel
theorem dev17 (c : Dev nD) : (⟨k0_dev17 c, k0_dev17_lt c⟩ : Dev nD) = fwd c 1 := by revert c; decide +kernel
theorem dev18 (c : Dev nD) : (⟨k0_dev18 c, k0_dev18_lt c⟩ : Dev nD) = fwd c 2 := by revert c; decide +kernel
theorem dev19 (c : Dev nD) : (⟨k0_dev19 c, k0_dev19_lt c⟩ : Dev nD) = fwd c 3 := by revert c; decide +kernel
theorem dev20 (c : Dev nD) : (⟨k0_dev20 c, k0_dev20_lt c⟩ : Dev nD) = fwd c 4 := by revert c; decide +kernel
theorem dev21 (c : Dev nD) : (⟨k0_dev21 c, k0_dev21_lt c⟩ : Dev nD) = fwd c 5 := by revert c; decide +kernel
theorem dev22 (c : Dev nD) : (⟨k0_dev22 c, k0_dev22_lt c⟩ : Dev nD) = fwd c 6 := by revert c; decide +kernel

/-! ## The printed conditions: a partial product is sent unless it is the device's own -/

theorem cond1 (c : Dev nD) : k0_cond1 c = 1#1 ↔ (0 : Dev nD) ≠ c := by revert c; decide +kernel
theorem cond2 (c : Dev nD) : k0_cond2 c = 1#1 ↔ (1 : Dev nD) ≠ c := by revert c; decide +kernel
theorem cond3 (c : Dev nD) : k0_cond3 c = 1#1 ↔ (2 : Dev nD) ≠ c := by revert c; decide +kernel
theorem cond4 (c : Dev nD) : k0_cond4 c = 1#1 ↔ (3 : Dev nD) ≠ c := by revert c; decide +kernel
theorem cond5 (c : Dev nD) : k0_cond5 c = 1#1 ↔ (4 : Dev nD) ≠ c := by revert c; decide +kernel
theorem cond6 (c : Dev nD) : k0_cond6 c = 1#1 ↔ (5 : Dev nD) ≠ c := by revert c; decide +kernel
theorem cond7 (c : Dev nD) : k0_cond7 c = 1#1 ↔ (6 : Dev nD) ≠ c := by revert c; decide +kernel
theorem cond8 (c : Dev nD) : k0_cond8 c = 1#1 ↔ (7 : Dev nD) ≠ c := by revert c; decide +kernel

/-! ## The printed slots -/

theorem off1 (c : Dev nD) (h : (0 : Dev nD) ≠ c) : k0_off1 c = ![(slot c 0).val] := by revert c; decide +kernel
theorem off2 (c : Dev nD) (h : (0 : Dev nD) ≠ c) : k0_off2 c = ![(slot c 0).val, 0, 0] := by revert c; decide +kernel
theorem off3 (c : Dev nD) (h : (1 : Dev nD) ≠ c) : k0_off3 c = ![(slot c 1).val] := by revert c; decide +kernel
theorem off4 (c : Dev nD) (h : (1 : Dev nD) ≠ c) : k0_off4 c = ![(slot c 1).val, 0, 0] := by revert c; decide +kernel
theorem off5 (c : Dev nD) (h : (2 : Dev nD) ≠ c) : k0_off5 c = ![(slot c 2).val] := by revert c; decide +kernel
theorem off6 (c : Dev nD) (h : (2 : Dev nD) ≠ c) : k0_off6 c = ![(slot c 2).val, 0, 0] := by revert c; decide +kernel
theorem off7 (c : Dev nD) (h : (3 : Dev nD) ≠ c) : k0_off7 c = ![(slot c 3).val] := by revert c; decide +kernel
theorem off8 (c : Dev nD) (h : (3 : Dev nD) ≠ c) : k0_off8 c = ![(slot c 3).val, 0, 0] := by revert c; decide +kernel
theorem off9 (c : Dev nD) (h : (4 : Dev nD) ≠ c) : k0_off9 c = ![(slot c 4).val] := by revert c; decide +kernel
theorem off10 (c : Dev nD) (h : (4 : Dev nD) ≠ c) : k0_off10 c = ![(slot c 4).val, 0, 0] := by revert c; decide +kernel
theorem off11 (c : Dev nD) (h : (5 : Dev nD) ≠ c) : k0_off11 c = ![(slot c 5).val] := by revert c; decide +kernel
theorem off12 (c : Dev nD) (h : (5 : Dev nD) ≠ c) : k0_off12 c = ![(slot c 5).val, 0, 0] := by revert c; decide +kernel
theorem off13 (c : Dev nD) (h : (6 : Dev nD) ≠ c) : k0_off13 c = ![(slot c 6).val] := by revert c; decide +kernel
theorem off14 (c : Dev nD) (h : (6 : Dev nD) ≠ c) : k0_off14 c = ![(slot c 6).val, 0, 0] := by revert c; decide +kernel
theorem off15 (c : Dev nD) (h : (7 : Dev nD) ≠ c) : k0_off15 c = ![(slot c 7).val] := by revert c; decide +kernel
theorem off16 (c : Dev nD) (h : (7 : Dev nD) ≠ c) : k0_off16 c = ![(slot c 7).val, 0, 0] := by revert c; decide +kernel

end Cert.Mlp

end
-- ==== Proof.Protocol.lean ====
/-
# The protocol: who waits on which semaphore, who pays it, and what each landing hands over

Every semaphore is used for one round.

* The barrier semaphore of device `c` is paid once by each of the other seven devices. The one `k + 1` places after
  `c` lends `c` the landing slot `k` of its receive buffer and the rows of its result that `c` will fill.
* `rsSend k` of device `c` is paid when `c`'s partial product for the device `k + 1` places on has left: the rows of
  the send buffer come back.
* `rsRecv k` of device `c` is paid by the device `k + 1` places before it: slot `k` then holds that device's partial
  product for `c`.
* `agSend k` of device `c` is paid when `c`'s finished rows have left for the device `k + 1` places on: a share of
  those rows comes back.
* `agRecv k` of device `c` is paid by the device `k + 1` places before it: that device's finished rows are in `c`'s
  result.
-/
module

public import proofs.«01_k».proof.Proof.Mesh
public import Idealize.ShloMosaic.Lib.Pipeline.Launch
public import Idealize.ShloMosaic.Lib.Pipeline.Kit
public import Idealize.ShloMosaic.Lib.Tactic

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Buffers, their blocks of 96 rows, and semaphores -/

abbrev xM : Memref sig .tc .vmem S768x768 .bf16 := Memref.whole cc0_stg0_0
abbrev w1M : Memref sig .tc .vmem S768x1536 .bf16 := Memref.whole cc0_stg1_0
abbrev w2M : Memref sig .tc .vmem S1536x768 .bf16 := Memref.whole cc0_stg2_0
abbrev oM : Memref sig .tc .vmem S768x768 .bf16 := Memref.whole cc0_stg3_0
abbrev pM : Memref sig .tc .vmem S768x768 .f32 := Memref.whole cc0_scratch0
abbrev bM : Memref sig .tc .vmem S768x768 .bf16 := Memref.whole cc0_scratch1
abbrev rM : Memref sig .tc .vmem S7x96x768 .bf16 := Memref.whole cc0_scratch2

theorem rows_inb (j : Dev nD) : ∀ a, (![96 * j.val, 0] : Fin 2 → ℕ) a + S96x768.size a ≤ S768x768.size a := by
  revert j; decide
theorem slot_inb (k : Fin 7) : ∀ a, (![k.val, 0, 0] : Fin 3 → ℕ) a + S1x96x768.size a ≤ S7x96x768.size a := by
  revert k; decide

/-- Rows `96 j … 96 j + 95` of a 768×768 array. -/
abbrev rowR (j : Dev nD) : Rect S768x768 := Rect.unit (s := S768x768) ![96 * j.val, 0] S96x768.size (rows_inb j)
/-- Landing slot `k` of the receive buffer. -/
abbrev slotR (k : Fin 7) : Rect S7x96x768 := Rect.unit (s := S7x96x768) ![k.val, 0, 0] S1x96x768.size (slot_inb k)

abbrev chunk {e : EltTy} (M : Memref sig .tc .vmem S768x768 e) (j : Dev nD) : Memref sig .tc .vmem S96x768 e :=
  M.slice (rowR j) (fun _ => rfl)
abbrev slotM (k : Fin 7) : Memref sig .tc .vmem S96x768 .bf16 :=
  (rM.slice (slotR k) (fun _ => rfl)).squeeze S96x768 squeezes_S1x96x768_S96x768

abbrev barS : Sem sig := (SemArray.scalar (sig.barrier 0 rfl) : Sems sig S_).sem

theorem sem_lt (a : Fin 4) (k : Fin 7) : 4 + 7 * a.val + k.val < sig.nDmaSem := by revert a k; decide
set_option backward.proofsInPublic true in
/-- The kernel's own semaphores: family `a` (0 sends and 1 receives of partial products, 2 sends and 3 receives of
    finished rows), number `k`. -/
def dmaS (a : Fin 4) (k : Fin 7) : DmaSem sig := ⟨4 + 7 * a.val + k.val, sem_lt a k⟩

abbrev barCell (c : Dev nD) : GSem nD τ sig := ((c : Thread nD τ), .reg barS)
abbrev dmaCell (a : Fin 4) (c : Dev nD) (k : Fin 7) : GSem nD τ sig := ((c : Thread nD τ), .dma (dmaS a k))

/-- What a semaphore is for. -/
inductive Role where
  | other
  | bar
  | dma (a : Fin 4) (k : Fin 7)
  deriving DecidableEq

def role : SemLoc sig → Role
  | .reg s => if s = barS then .bar else .other
  | .dma q => if h : ∃ ak : Fin 4 × Fin 7, q = dmaS ak.1 ak.2 then .dma h.choose.1 h.choose.2 else .other

theorem dmaS_inj {a a' : Fin 4} {k k' : Fin 7} (h : dmaS a k = dmaS a' k') : a = a' ∧ k = k' := by
  have h' : 4 + 7 * a.val + k.val = 4 + 7 * a'.val + k'.val := congrArg Fin.val h
  constructor <;> apply Fin.ext <;> omega

theorem role_bar : role (.reg barS) = .bar := by
  show (if barS = barS then Role.bar else .other) = _
  exact if_pos rfl
theorem role_dma (a : Fin 4) (k : Fin 7) : role (.dma (dmaS a k)) = .dma a k := by
  have h : ∃ ak : Fin 4 × Fin 7, dmaS a k = dmaS ak.1 ak.2 := ⟨(a, k), rfl⟩
  have he := dmaS_inj h.choose_spec
  show (if h : ∃ ak : Fin 4 × Fin 7, dmaS a k = dmaS ak.1 ak.2 then Role.dma h.choose.1 h.choose.2 else .other) = _
  rw [dif_pos h, ← he.1, ← he.2]
theorem role_stage (q : DmaSem sig) (h : q.val < 4) : role (.dma q) = .other := by
  refine dif_neg ?_
  rintro ⟨⟨a, k⟩, rfl⟩
  have e : (dmaS a k).val = 4 + 7 * a.val + k.val := rfl
  have h' : (dmaS a k).val < 4 := h
  rw [e] at h'
  omega

/-- The credit of one block of 96 rows. -/
def N : ℕ := (slotM 0).view.dmaCredit
theorem N_pos : 0 < N := View.dmaCredit_pos _ (by decide)
theorem credit_slot {off : Fin 3 → ℕ} {hi : ∀ a, off a + S1x96x768.size a ≤ S7x96x768.size a} :
    ((rM.slice (Rect.unit (s := S7x96x768) off S1x96x768.size hi) (fun _ => rfl)).squeeze S96x768 squeezes_S1x96x768_S96x768
      : Memref sig .tc .vmem S96x768 .bf16).view.dmaCredit = N := rfl
theorem credit_out {off : Fin 2 → ℕ} {hi : ∀ a, off a + S96x768.size a ≤ S768x768.size a} :
    (oM.slice (Rect.unit (s := S768x768) off S96x768.size hi) (fun _ => rfl) : Memref sig .tc .vmem S96x768 .bf16).view.dmaCredit = N := rfl
theorem credit_send {off : Fin 2 → ℕ} {hi : ∀ a, off a + S96x768.size a ≤ S768x768.size a} :
    (bM.slice (Rect.unit (s := S768x768) off S96x768.size hi) (fun _ => rfl) : Memref sig .tc .vmem S96x768 .bf16).view.dmaCredit = N := rfl

/-! ## Contents -/

/-- Device `c`'s copies of the input, and of its blocks of the two weight matrices. -/
def xs (c : Dev nD) : (cc0_stg0_0 : Ref sig .tc).ty.Contents (Elt F) :=
  (win0_0.blk (0 : Fin 1)).view.read (Elt F) ((s₀ m ρ).mem ((c : Thread nD τ).loc main_arg0))
def w1s (c : Dev nD) : (cc0_stg1_0 : Ref sig .tc).ty.Contents (Elt F) :=
  (win0_1.blk (0 : Fin 1)).view.read (Elt F) ((s₀ m ρ).mem ((c : Thread nD τ).loc main_arg1))
def w2s (c : Dev nD) : (cc0_stg2_0 : Ref sig .tc).ty.Contents (Elt F) :=
  (win0_2.blk (0 : Fin 1)).view.read (Elt F) ((s₀ m ρ).mem ((c : Thread nD τ).loc main_arg2))

/-- Device `c`'s partial product for the rows of device `j`, and the same rounded. -/
def part (c j : Dev nD) : FVec F S96x768 .f32 :=
  k0_pay7 (k0_pay1 (w1s m ρ c)) (k0_pay2 (w2s m ρ c)) (fun i => xs m ρ c ((rowR j).emb i))
def partB (c j : Dev nD) : FVec F S96x768 .bf16 :=
  k0_pay8 (k0_pay1 (w1s m ρ c)) (k0_pay2 (w2s m ρ c)) (fun i => xs m ρ c ((rowR j).emb i))

/-- One step of the reduction: a received block widened and added. -/
def add1 (a : FVec F S96x768 .f32) (w : FVec F S96x768 .bf16) : FVec F S96x768 .f32 := addf a (extf .f32 w bitsLt_bf16_f32)

/-- Device `c`'s running sum after the first `n` received blocks. -/
def acc (c : Dev nD) : ℕ → FVec F S96x768 .f32
  | 0 => part m ρ c c
  | n + 1 => add1 (acc c n) (partB m ρ (bwd c (Fin.ofNat 7 n)) c)

/-- Device `c`'s finished rows. -/
def red (c : Dev nD) : FVec F S96x768 .bf16 := truncf .bf16 (acc m ρ c 7) bitsLt_bf16_f32

/-! ## What each landing hands over -/

/-- The device `k + 1` places after `c` lends `c` its landing slot `k` and the rows `c` will fill. -/
def lend (c : Dev nD) (k : Fin 7) : sProp 𝕄 :=
  iprop((∃ w, ownsTc (fwd c k) (slotM k) fullShare w) ∗ (∃ w, ownsTc (fwd c k) (chunk oM c) fullShare w))

/-- The share of the finished rows that travels with send `k`. -/
abbrev agq (k : Fin 7) : PosShare TreeShare := Transfers.dealOf fullShare (Finset.univ : Finset (Fin 7)) k

def pay (c : Dev nD) (a : Fin 4) (k : Fin 7) : sProp 𝕄 :=
  match a with
  | 0 => iprop(∃ w, ownsTc c (chunk bM (fwd c k)) fullShare w)
  | 1 => ownsTc c (slotM k) fullShare (partB m ρ (bwd c k) c)
  | 2 => ownsTc c (chunk oM c) (agq k) (red m ρ c)
  | 3 => ownsTc c (chunk oM (bwd c k)) fullShare (red m ρ (bwd c k))

instance lend_storable (c : Dev nD) (k : Fin 7) : BI.Storable (upEmb : UEmb _ 𝕄) (lend (F := F) c k) := by
  unfold lend; infer_instance
instance pay_storable (c : Dev nD) (a : Fin 4) (k : Fin 7) : BI.Storable (upEmb : UEmb _ 𝕄) (pay m ρ c a k) := by
  unfold pay; split <;> infer_instance

/-- The schedule: one round; a barrier semaphore has seven duties of one unit, each other one duty of a block's
    credit. -/
def plan : Rounds.Schedule (GSem nD τ sig) (Fin 7) 𝕄 where
  duties g r := if r = 0 ∧ g.1.2 = .tc then (match role g.2 with | .other => ∅ | .bar => Finset.univ | .dma _ _ => {0}) else ∅
  unitless _ := False
  amount g _ _ := match role g.2 with | .bar => 1 | _ => N
  payload g _ d := match role g.2 with | .other => iprop(emp) | .bar => lend g.1.1 d | .dma a k => pay m ρ g.1.1 a k
  amount_pos g _ _ _ := by split; exacts [Nat.one_pos, N_pos]

instance plan_payload_storable (g : GSem nD τ sig) (r : ℕ) (d : Fin 7) :
    BI.Storable (upEmb : UEmb _ 𝕄) ((plan (F := F) m ρ).payload g r d) := by
  show BI.Storable upEmb (match role g.2 with | .other => iprop(emp) | .bar => lend g.1.1 d | .dma a k => pay m ρ g.1.1 a k)
  split <;> infer_instance

section Sched
variable (c : Dev nD) (a : Fin 4) (k d : Fin 7)

theorem duties_bar : (plan (F := F) m ρ).duties (barCell c) 0 = Finset.univ := by
  dsimp only [plan]; rw [if_pos ⟨rfl, rfl⟩, role_bar]
theorem duties_dma : (plan (F := F) m ρ).duties (dmaCell a c k) 0 = {0} := by
  dsimp only [plan]; rw [if_pos ⟨rfl, rfl⟩, role_dma]
theorem duties_later (g : GSem nD τ sig) : ∀ r, 1 ≤ r → (plan (F := F) m ρ).duties g r = ∅ :=
  fun r hr => by dsimp only [plan]; rw [if_neg fun h => by omega]
theorem amount_bar : (plan (F := F) m ρ).amount (barCell c) 0 d = 1 := by dsimp only [plan]; rw [role_bar]
theorem amount_dma : (plan (F := F) m ρ).amount (dmaCell a c k) 0 d = N := by dsimp only [plan]; rw [role_dma]
theorem expect_bar : (plan (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_dma : (plan (F := F) m ρ).expect (dmaCell a c k) 0 = N := by
  unfold Schedule.expect Schedule.amountOf; rw [duties_dma, Finset.sum_singleton, amount_dma]
theorem payload_bar : (plan (F := F) m ρ).payload (barCell c) 0 d = lend c d := by dsimp only [plan]; rw [role_bar]
theorem payload_dma : (plan (F := F) m ρ).payload (dmaCell a c k) 0 d = pay m ρ c a k := by dsimp only [plan]; rw [role_dma]
theorem rest_bar : bigSep ((plan (F := F) m ρ).duties (barCell c) 0 \ ∅) (fun d => (plan (F := F) m ρ).payload (barCell c) 0 d)
    = bigSep Finset.univ (lend (F := F) c) := by
  rw [Finset.sdiff_empty, duties_bar]; exact bigSep_congr fun d _ => payload_bar m ρ c d
theorem rest_dma : bigSep ((plan (F := F) m ρ).duties (dmaCell a c k) 0 \ ∅) (fun d => (plan (F := F) m ρ).payload (dmaCell a c k) 0 d)
    = pay m ρ c a k := by
  rw [Finset.sdiff_empty, duties_dma, bigSep_singleton, payload_dma]

end Sched

/-! ## What is owed, and the levels -/

abbrev Tal := CellTallies nD τ sig Unit

/-- The signals `n, n + 1, …, 6` still owed; -/
def oweB (c : Dev nD) (n : ℕ) : Tal := ∑ k : Fin 7 with n ≤ k.val, tallyAt (barCell (fwd c k)) () 1
/-- the partial products for devices `n, n + 1, …, 7` still owed; -/
def oweR (c : Dev nD) (n : ℕ) : Tal :=
  ∑ j : Dev nD with n ≤ j.val, if j = c then 0 else tallyAt (dmaCell 1 j (slot c j)) () N
/-- the sends `n, n + 1, …, 6` of finished rows still owed. -/
def oweA (c : Dev nD) (n : ℕ) : Tal := ∑ k : Fin 7 with n ≤ k.val, tallyAt (dmaCell 3 (fwd c k) k) () N

def O₀ (c : Dev nD) : Tal := oweA c 0 + oweR c 0 + oweB c 0

theorem sum_ge {n : ℕ} {M : Type} [AddCommMonoid M] (f : Fin n → M) (i : Fin n) :
    (∑ k : Fin n with i.val ≤ k.val, f k) = (∑ k : Fin n with i.val + 1 ≤ k.val, f k) + f i := by
  have h : (Finset.univ.filter fun k : Fin n => i.val ≤ k.val) = insert i (Finset.univ.filter fun k : Fin n => i.val + 1 ≤ k.val) := by
    ext k; simp only [Finset.mem_filter, Finset.mem_univ, true_and, Finset.mem_insert, Fin.ext_iff]; omega
  rw [h, Finset.sum_insert (by simp), add_comm]
theorem sum_end {n : ℕ} {M : Type} [AddCommMonoid M] (f : Fin n → M) : (∑ k : Fin n with n ≤ k.val, f k) = 0 :=
  Finset.sum_eq_zero fun k hk => absurd (Finset.mem_filter.mp hk).2 (by omega)

theorem oweB_step (c : Dev nD) (k : Fin 7) : oweB c k.val = oweB c (k.val + 1) + tallyAt (barCell (fwd c k)) () 1 := sum_ge _ k
theorem oweA_step (c : Dev nD) (k : Fin 7) : oweA c k.val = oweA c (k.val + 1) + tallyAt (dmaCell 3 (fwd c k) k) () N := sum_ge _ k
theorem oweR_step (c j : Dev nD) (h : j ≠ c) : oweR c j.val = oweR c (j.val + 1) + tallyAt (dmaCell 1 j (slot c j)) () N := by
  unfold oweR; rw [sum_ge _ j, if_neg h]
theorem oweR_skip (c : Dev nD) : oweR c c.val = oweR c (c.val + 1) := by
  unfold oweR; rw [sum_ge _ c, if_pos rfl, add_zero]
theorem oweB_end (c : Dev nD) : oweB c 7 = 0 := sum_end _
theorem oweR_end (c : Dev nD) : oweR c 8 = 0 := sum_end _
theorem oweA_end (c : Dev nD) : oweA c 7 = 0 := sum_end _

def L (g : GSem nD τ sig) : Finset Unit := if g.1.2 = .tc then {()} else ∅
/-- Barriers at level 1, received partial products at 2, received rows at 3, everything else at 0. -/
def lv (g : GSem nD τ sig) (_ : Unit) : ℕ :=
  match role g.2 with | .bar => 1 | .dma a _ => (if a = 1 then 2 else if a = 3 then 3 else 0) | .other => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_dma (a : Fin 4) (c : Dev nD) (k : Fin 7) : lv (dmaCell a c k) () = if a = 1 then 2 else if a = 3 then 3 else 0 := by
  unfold lv; rw [role_dma]

/-- Everything owed lies on cores' semaphores of level above `n`. -/
def Above (n : ℕ) (O : Tal) : Prop := ∀ g u, 0 < O g u → g.1.2 = .tc ∧ n < lv g u

theorem Above.zero (n : ℕ) : Above n 0 := fun _ _ h => absurd h (Nat.lt_irrefl 0)
theorem Above.add {n : ℕ} {O O' : Tal} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.sum {n : ℕ} {I : Type} (s : Finset I) (f : I → Tal) (h : ∀ i ∈ s, Above n (f i)) : Above n (∑ i ∈ s, f i) := by
  classical
  induction s using Finset.induction_on with
  | empty => rw [Finset.sum_empty]; exact Above.zero n
  | insert i s hi ih =>
    rw [Finset.sum_insert hi]
    exact (h i (Finset.mem_insert_self i s)).add (ih fun j hj => h j (Finset.mem_insert_of_mem hj))
theorem Above.tally {n k : ℕ} {c : Dev nD} {sm : SemLoc sig} (h : n < lv ((c : Thread nD τ), sm) ()) :
    Above n (tallyAt ((c : Thread nD τ), sm) () k) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)

theorem above_B (c : Dev nD) (n : ℕ) : Above 0 (oweB c n) := Above.sum _ _ fun k _ => Above.tally (by rw [lv_bar]; decide)
theorem above_R (c : Dev nD) (n : ℕ) : Above 1 (oweR c n) := Above.sum _ _ fun j _ => by
  split
  · exact Above.zero 1
  · exact Above.tally (by rw [lv_dma]; decide)
theorem above_A (c : Dev nD) (n : ℕ) : Above 2 (oweA c n) := Above.sum _ _ fun k _ => Above.tally (by rw [lv_dma]; decide)
theorem Above.mono {n n' : ℕ} {O : Tal} (h : Above n O) (hn : n' ≤ n) : Above n' O := fun g u hg => ⟨(h g u hg).1, by have := (h g u hg).2; omega⟩
theorem above_O₀ (c : Dev nD) : Above 0 (O₀ c) :=
  (((above_A c 0).mono (by decide)).add ((above_R c 0).mono (by decide))).add (above_B c 0)

/-- A core may wait on a semaphore while everything it owes lies above it. -/
theorem mayWait {n : ℕ} (c : Dev nD) (sm : SemLoc sig) (O : Tal) (hs : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-! ## All cells, and the standing facts about them -/

/-- The cells of one device: its barrier, and its own 28 semaphores. -/
abbrev Cx : Type := Unit ⊕ (Fin 4 × Fin 7)
abbrev osem (ak : Fin 4 × Fin 7) : SemLoc sig := .dma (dmaS ak.1 ak.2)
def csem : Cx → SemLoc sig := Sum.elim (fun _ => .reg barS) osem
abbrev kcell (ck : Dev nD × Cx) : GSem nD τ sig := ((ck.1 : Thread nD τ), csem ck.2)

/-- The invariants of all cells under the names `K`, and that their round has begun. -/
def records (K : Dev nD × Cx → ℕ) : sProp 𝕄 :=
  iprop((bigSep Finset.univ fun ck : Dev nD × Cx => cellInv ER (plan m ρ) (K ck) (kcell ck))
    ∗ bigSep Finset.univ fun ck : Dev nD × Cx => reached ER (kcell ck) 0)

instance records_persistent (K : Dev nD × Cx → ℕ) : BI.Persistent (records m ρ K) := by unfold records; infer_instance

variable (K : Dev nD × Cx → ℕ)

theorem inv_at (ck : Dev nD × Cx) : records m ρ K ⊢ cellInv ER (plan m ρ) (K ck) (kcell ck) := by
  have h : (bigSep Finset.univ fun ck : Dev nD × Cx => (cellInv ER (plan m ρ) (K ck) (kcell ck) : sProp 𝕄)) ⊢ cellInv ER (plan m ρ) (K ck) (kcell ck) :=
    bigSep_elim (Finset.mem_univ ck)
  unfold records; iintro ⟨#H, -⟩; iapply h; iexact H
theorem reached_at (ck : Dev nD × Cx) : records m ρ K ⊢ (reached ER (kcell ck) 0 : sProp 𝕄) := by
  have h : (bigSep Finset.univ fun ck : Dev nD × Cx => (reached ER (kcell ck) 0 : sProp 𝕄)) ⊢ reached ER (kcell ck) 0 :=
    bigSep_elim (Finset.mem_univ ck)
  unfold records; iintro ⟨-, #H⟩; iapply h; iexact H

theorem inv_bar (c : Dev nD) : records m ρ K ⊢ cellInv ER (plan m ρ) (K (c, .inl ())) (barCell c) := inv_at m ρ K (c, .inl ())
theorem inv_dma (a : Fin 4) (c : Dev nD) (k : Fin 7) : records m ρ K ⊢ cellInv ER (plan m ρ) (K (c, .inr (a, k))) (dmaCell a c k) :=
  inv_at m ρ K (c, .inr (a, k))
theorem reached_bar (c : Dev nD) : records m ρ K ⊢ (reached ER (barCell c) 0 : sProp 𝕄) := reached_at m ρ K (c, .inl ())
theorem reached_dma (a : Fin 4) (c : Dev nD) (k : Fin 7) : records m ρ K ⊢ (reached ER (dmaCell a c k) 0 : sProp 𝕄) :=
  reached_at m ρ K (c, .inr (a, k))

end Cert.Mlp

end
-- ==== Proof.Steps.lean ====
/-
# One rule for each kind of operation of the body

Loads and stores of a block of 96 rows, the signals, the waits, and the two kinds of send, each stated once for every
block, slot and device.
-/
module

public import proofs.«01_k».proof.Proof.Protocol

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of the body on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What a device owes, whatever waits it has made. -/
def owesE (c : Dev nD) (O : Tal) : sProp 𝕄 := iprop(∃ W, owes (c : Thread nD τ) O W)

section Memory
variable (c : Dev nD) {α : Type}

theorem hz : (![0, 0] : Fin 2 → ℕ) = fun _ => 0 := funext fun a => by fin_cases a <;> rfl

theorem wp_load_w1 (q : PosShare TreeShare) (X : (cc0_stg1_0 : Ref sig .tc).ty.Contents (Elt F))
    {hi : ∀ a, (![0, 0] : Fin 2 → ℕ) a + S768x1536.size a ≤ S768x1536.size a}
    {hl : (w1M : Memref sig .tc .vmem S768x1536 .bf16).view.LoadsAt (Rect.unit (s := S768x1536) ![0, 0] S768x1536.size hi).toLoadRect}
    {Q : α → sProp 𝕄} {k : (S768x1536.Idx → Elt F .bf16) → Prog (TpuEff nD τ sig (Elt F) Λ₀ .tc) α} :
    ownsTc c w1M q X ⊢ iprop((ownsTc c w1M q X -∗ WP c (k X) Q)
        -∗ WP c (.op (.load w1M (Rect.unit (s := S768x1536) ![0, 0] S768x1536.size hi).toLoadRect hl) k) Q) := by
  unfold ownsTc owns
  iintro ⟨%f, %hf, H⟩ Hk
  iapply (wp_load 𝒱₀ (c : Thread nD τ) none Set.univ (m := w1M) (View.setOn_subset_set _ _)) $$ H; iintro H
  rw [show (w1M : Memref sig .tc .vmem S768x1536 .bf16).view.readAt (Elt F) (Rect.unit (s := S768x1536) ![0, 0] S768x1536.size hi).toLoadRect f = X from
    (Memref.readAt_unit_zero (Elt F) cc0_stg1_0 hz _ f).trans hf]
  iapply Hk; iexists f
  isplitr; · ipureintro; exact hf
  iexact H

theorem wp_load_w2 (q : PosShare TreeShare) (X : (cc0_stg2_0 : Ref sig .tc).ty.Contents (Elt F))
    {hi : ∀ a, (![0, 0] : Fin 2 → ℕ) a + S1536x768.size a ≤ S1536x768.size a}
    {hl : (w2M : Memref sig .tc .vmem S1536x768 .bf16).view.LoadsAt (Rect.unit (s := S1536x768) ![0, 0] S1536x768.size hi).toLoadRect}
    {Q : α → sProp 𝕄} {k : (S1536x768.Idx → Elt F .bf16) → Prog (TpuEff nD τ sig (Elt F) Λ₀ .tc) α} :
    ownsTc c w2M q X ⊢ iprop((ownsTc c w2M q X -∗ WP c (k X) Q)
        -∗ WP c (.op (.load w2M (Rect.unit (s := S1536x768) ![0, 0] S1536x768.size hi).toLoadRect hl) k) Q) := by
  unfold ownsTc owns
  iintro ⟨%f, %hf, H⟩ Hk
  iapply (wp_load 𝒱₀ (c : Thread nD τ) none Set.univ (m := w2M) (View.setOn_subset_set _ _)) $$ H; iintro H
  rw [show (w2M : Memref sig .tc .vmem S1536x768 .bf16).view.readAt (Elt F) (Rect.unit (s := S1536x768) ![0, 0] S1536x768.size hi).toLoadRect f = X from
    (Memref.readAt_unit_zero (Elt F) cc0_stg2_0 hz _ f).trans hf]
  iapply Hk; iexists f
  isplitr; · ipureintro; exact hf
  iexact H

/-- Loading the rows of `j` from the whole input. -/
theorem wp_load_x (j : Dev nD) (q : PosShare TreeShare) (X : (cc0_stg0_0 : Ref sig .tc).ty.Contents (Elt F))
    {off : Fin 2 → ℕ} (ho : off = ![96 * j.val, 0]) {hi : ∀ a, off a + S96x768.size a ≤ S768x768.size a}
    {hl : (xM : Memref sig .tc .vmem S768x768 .bf16).view.LoadsAt (Rect.unit (s := S768x768) off S96x768.size hi).toLoadRect}
    {Q : α → sProp 𝕄} {k : (S96x768.Idx → Elt F .bf16) → Prog (TpuEff nD τ sig (Elt F) Λ₀ .tc) α} :
    ownsTc c xM q X ⊢ iprop((ownsTc c xM q X -∗ WP c (k fun i => X ((rowR j).emb i)) Q)
        -∗ WP c (.op (.load xM (Rect.unit (s := S768x768) off S96x768.size hi).toLoadRect hl) k) Q) := by
  subst ho
  unfold ownsTc owns
  iintro ⟨%f, %hf, H⟩ Hk
  iapply (wp_load 𝒱₀ (c : Thread nD τ) none Set.univ (m := xM) (View.setOn_subset_set _ _)) $$ H; iintro H
  rw [show (xM : Memref sig .tc .vmem S768x768 .bf16).view.readAt (Elt F) (Rect.unit (s := S768x768) ![96 * j.val, 0] S96x768.size hi).toLoadRect f
    = (fun i => X ((rowR j).emb i)) by subst hf; rfl]
  iapply Hk; iexists f
  isplitr; · ipureintro; exact hf
  iexact H

section Rows
variable {e : EltTy} (M : Memref sig .tc .vmem S768x768 e) (j : Dev nD) {off : Fin 2 → ℕ} (ho : off = ![96 * j.val, 0])
  {hi : ∀ a, off a + S96x768.size a ≤ S768x768.size a}
include ho

/-- Loading the rows of `j`, held on their own. -/
theorem wp_load_row (q : PosShare TreeShare) (w : S96x768.Idx → Elt F e)
    {hl : M.view.LoadsAt (Rect.unit (s := S768x768) off S96x768.size hi).toLoadRect}
    {Q : α → sProp 𝕄} {k : (S96x768.Idx → Elt F e) → Prog (TpuEff nD τ sig (Elt F) Λ₀ .tc) α} :
    ownsTc c (chunk M j) q w ⊢ iprop((ownsTc c (chunk M j) q w -∗ WP c (k w) Q)
        -∗ WP c (.op (.load M (Rect.unit (s := S768x768) off S96x768.size hi).toLoadRect hl) k) Q) := by
  subst ho
  unfold ownsTc owns
  iintro ⟨%f, %hf, H⟩ Hk
  iapply (wp_load_rect 𝒱₀ (c : Thread nD τ) none Set.univ (m := M) (r := rowR j) (Finset.Subset.refl _)) $$ H; iintro H
  rw [show (M.access (rowR j)).read (Elt F) f = w from hf]
  iapply Hk; iexists f
  isplitr; · ipureintro; exact hf
  iexact H

/-- Storing over the rows of `j`. -/
theorem wp_store_row (w₀ w : S96x768.Idx → Elt F e)
    {hx : (M.access (Rect.unit (s := S768x768) off S96x768.size hi)).Stores Finset.univ} {hm}
    {Q : α → sProp 𝕄} {k : PUnit → Prog (TpuEff nD τ sig (Elt F) Λ₀ .tc) α} :
    ownsTc c (chunk M j) fullShare w₀ ⊢ iprop((ownsTc c (chunk M j) fullShare w -∗ WP c (k ⟨⟩) Q)
        -∗ WP c (.op (.store M (Rect.unit (s := S768x768) off S96x768.size hi) w Finset.univ hx hm) k) Q) := by
  subst ho
  unfold ownsTc owns
  iintro ⟨%f, %hf, H⟩ Hk
  iapply (wp_store 𝒱₀ (c : Thread nD τ) none Set.univ (m := M) (r := rowR j) (Mk := Finset.univ) (View.setOn_subset_set _ _)) $$ H; iintro H
  iapply Hk; iexists _
  isplitr; · ipureintro; exact View.read_write_univ f w
  iexact H

end Rows

/-- Loading a landing slot: the loaded block, its leading unit axis dropped, is what the slot holds. -/
theorem wp_load_slot (i : Fin 7) (q : PosShare TreeShare) (w : S96x768.Idx → Elt F .bf16) {off : Fin 3 → ℕ} (ho : off = ![i.val, 0, 0])
    {hi : ∀ a, off a + S1x96x768.size a ≤ S7x96x768.size a}
    {hl : (rM : Memref sig .tc .vmem S7x96x768 .bf16).view.LoadsAt (Rect.unit (s := S7x96x768) off S1x96x768.size hi).toLoadRect}
    {Q : α → sProp 𝕄} {k : (S1x96x768.Idx → Elt F .bf16) → Prog (TpuEff nD τ sig (Elt F) Λ₀ .tc) α} :
    ownsTc c (slotM i) q w
      ⊢ iprop((∀ x, ⌜shapeCast S96x768 x shapeCasts_S1x96x768_S96x768 = w⌝ -∗ ownsTc c (slotM i) q w -∗ WP c (k x) Q)
        -∗ WP c (.op (.load rM (Rect.unit (s := S7x96x768) off S1x96x768.size hi).toLoadRect hl) k) Q) := by
  subst ho
  unfold ownsTc owns
  iintro ⟨%f, %hf, H⟩ Hk
  iapply (wp_load_rect 𝒱₀ (c : Thread nD τ) none Set.univ (m := rM) (r := slotR i)
    (show (rM.access (slotR i)).set ⊆ (slotM i).view.set from (View.set_reshape _ _).symm.subset)) $$ H; iintro H
  iapply Hk $$ %((rM.access (slotR i)).read (Elt F) f) %hf [H]
  iexists f
  isplitr; · ipureintro; exact hf
  iexact H

end Memory

end Cert.Mlp

end
-- ==== Proof.Comm.lean ====
/-
# The communication steps: signals, waits and sends

Each is stated over what the device still has to do and what it has done, so that it applies to every device, slot and
block alike.
-/
module

public import proofs.«01_k».proof.Proof.Steps

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

/-! ## Families taken in order -/

/-- The members from `n` on, and those before `n`. -/
def from_ {n : ℕ} (i : ℕ) (Φ : Fin n → sProp 𝕄) : sProp 𝕄 := bigSep (Finset.univ.filter fun k : Fin n => i ≤ k.val) Φ
def before_ {n : ℕ} (i : ℕ) (Φ : Fin n → sProp 𝕄) : sProp 𝕄 := bigSep (Finset.univ.filter fun k : Fin n => k.val < i) Φ

omit [FloatOps F] in
theorem from_step {n : ℕ} (i : Fin n) (Φ : Fin n → sProp 𝕄) : from_ i.val Φ = iprop(Φ i ∗ from_ (i.val + 1) Φ) := by
  unfold from_
  rw [show (Finset.univ.filter fun k : Fin n => i.val ≤ k.val) = insert i (Finset.univ.filter fun k : Fin n => i.val + 1 ≤ k.val) by
    ext k; simp only [Finset.mem_filter, Finset.mem_univ, true_and, Finset.mem_insert, Fin.ext_iff]; omega]
  exact bigSep_insert (by simp)
omit [FloatOps F] in
theorem before_step {n : ℕ} (i : Fin n) (Φ : Fin n → sProp 𝕄) : before_ (i.val + 1) Φ = iprop(Φ i ∗ before_ i.val Φ) := by
  unfold before_
  rw [show (Finset.univ.filter fun k : Fin n => k.val < i.val + 1) = insert i (Finset.univ.filter fun k : Fin n => k.val < i.val) by
    ext k; simp only [Finset.mem_filter, Finset.mem_univ, true_and, Finset.mem_insert, Fin.ext_iff]; omega]
  exact bigSep_insert (by simp)
omit [FloatOps F] in
theorem from_zero {n : ℕ} (Φ : Fin n → sProp 𝕄) : from_ 0 Φ = bigSep Finset.univ Φ := by
  unfold from_; rw [Finset.filter_true_of_mem fun _ _ => Nat.zero_le _]
omit [FloatOps F] in
theorem from_end {n : ℕ} (Φ : Fin n → sProp 𝕄) : from_ n Φ = iprop(emp) := by
  unfold from_; rw [Finset.filter_false_of_mem fun k _ => by omega]; exact bigSep_empty
omit [FloatOps F] in
theorem before_zero {n : ℕ} (Φ : Fin n → sProp 𝕄) : before_ 0 Φ = iprop(emp) := by
  unfold before_; rw [Finset.filter_false_of_mem fun k _ => by omega]; exact bigSep_empty
omit [FloatOps F] in
theorem before_end {n : ℕ} (Φ : Fin n → sProp 𝕄) : before_ n Φ = bigSep Finset.univ Φ := by
  unfold before_; rw [Finset.filter_true_of_mem fun k _ => k.isLt]
omit [FloatOps F] in
/-- One member out of those before `i`, to be put back. -/
theorem before_take {n : ℕ} (i : ℕ) (j : Fin n) (h : j.val < i) (Φ : Fin n → sProp 𝕄) : before_ i Φ ⊢ iprop(Φ j ∗ (Φ j -∗ before_ i Φ)) := by
  unfold before_
  rw [show bigSep (Finset.univ.filter fun k : Fin n => k.val < i) Φ
      = iprop(Φ j ∗ bigSep ((Finset.univ.filter fun k : Fin n => k.val < i).erase j) Φ) from
    bigSep_erase (Finset.mem_filter.mpr ⟨Finset.mem_univ j, h⟩)]
  iintro ⟨H, Hr⟩
  isplitl [H]; · iexact H
  iintro H
  isplitl [H] <;> iassumption

/-! ## Signals -/

/-- What signal `k` hands over, with its duty. -/
def sigItem (k : Fin 7) : sProp 𝕄 :=
  iprop(dutyTok ER (barCell (fwd c k)) 0 (rev k) ∗ (∃ w, ownsTc c (slotM (rev k)) fullShare w) ∗ (∃ w, ownsTc c (chunk oM (fwd c k)) fullShare w))
def SigSt (n : ℕ) : sProp 𝕄 := iprop(owesE c (oweA c 0 + oweR c 0 + oweB c n) ∗ from_ n (sigItem (F := F) c))

theorem wp_sig (k : Fin 7) {dst : Dev nD} (hd : dst = fwd c k) {n : ℕ} (hn : 1 = n) {α : Type} {Q : α → sProp 𝕄}
    {kt : PUnit → Prog (TpuEff nD τ sig (Elt F) Λ₀ .tc) α} :
    iprop(records m ρ K ∗ SigSt c k.val)
      ⊢ iprop((SigSt c (k.val + 1) -∗ WP c (kt ⟨⟩) Q) -∗ WP c (.op (.semSignal (dst : Thread nD τ) barS n) kt) Q) := by
  subst hd
  unfold SigSt owesE
  rw [from_step, oweB_step]
  unfold sigItem
  iintro ⟨#HR, ⟨%W, HO⟩, ⟨Ht, Hs, Hc⟩, Hrest⟩ Hk
  iapply (Rounds.wp_signal 𝒱₀ ER (plan m ρ) (c : Thread nD τ) none (dst := (fwd c k : Thread nD τ)) (κ := K (fwd c k, .inl ()))
      (d := rev k) (by rw [duties_bar]; exact Finset.mem_univ _) ((amount_bar m ρ (fwd c k) (rev k)).trans hn) ()
      (oweA c 0 + oweR c 0 + oweB c (k.val + 1)) (by rw [← hn, add_assoc])) $$ [HO Ht Hs Hc]
  · isplitr; · iapply (inv_bar m ρ K (fwd c k)); iexact HR
    isplitl [HO]; · iexact HO
    isplitl [Ht]; · iexact Ht
    isplitl [Hs Hc]
    · rw [payload_bar]; unfold lend; rw [fwd_fwd_rev]
      isplitl [Hs] <;> iassumption
    · iapply (reached_bar m ρ K (fwd c k)); iexact HR
  iintro HO
  iapply Hk
  isplitl [HO]; · iexists W; iexact HO
  iexact Hrest

/-! ## Waits -/

/-- The wait for the seven signals. -/
theorem wp_bar {n : ℕ} (hn : 7 = n) {α : Type} {Q : α → sProp 𝕄} {kt : PUnit → Prog (TpuEff nD τ sig (Elt F) Λ₀ .tc) α} :
    iprop(records m ρ K ∗ levAts L lv ∗ owesE c (oweA c 0 + oweR c 0) ∗ cred (tallyAt (barCell c) () 7) ∗ atPos ER (barCell c) 0 ∅ 0)
      ⊢ iprop(((owesE c (oweA c 0 + oweR c 0) ∗ atPos ER (barCell c) 1 ∅ 0 ∗ bigSep Finset.univ (lend (F := F) c)) -∗ WP c (kt ⟨⟩) Q)
        -∗ WP c (.op (.semWait barS n) kt) Q) := by
  subst hn
  unfold owesE
  iintro ⟨#HR, #Hlev, ⟨%W, HO⟩, Hc, Hat⟩ Hk
  iapply (Rounds.wp_wait_rest_token 𝒱₀ ER (plan m ρ) (c : Thread nD τ) none (κ := K (c, .inl ()))
      (wpE_semWait_eq 𝒱₀ (c : Thread nD τ) none Set.univ) (Set.mem_univ _) () (O := oweA c 0 + oweR c 0) (W := W) (R := 0) (m := 0) (T := ∅)
      (by rw [expect_bar])) $$ [Hc HO Hat]
  · isplitr; · iapply (inv_bar m ρ K c); iexact HR
    isplitl [Hc]; · iexact Hc
    isplitl [HO]; · iexact HO
    isplitr
    · iapply (mayWait c (.reg barS) (oweA c 0 + oweR c 0) (n := 1) (by rw [lv_bar]) (((above_A c 0).mono (by decide)).add (above_R c 0))); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-- A family of seven semaphores waited on in order: those still to wait on, and those waited on with what they gave. -/
def WaitSt (a : Fin 4) (n : ℕ) : sProp 𝕄 :=
  iprop(from_ n (fun k : Fin 7 => iprop(cred (tallyAt (dmaCell a c k) () N) ∗ atPos ER (dmaCell a c k) 0 ∅ 0))
    ∗ before_ n (fun k : Fin 7 => iprop(atPos ER (dmaCell a c k) 1 ∅ 0 ∗ pay m ρ c a k)))

theorem wp_wait_dma (a : Fin 4) (k : Fin 7) {O : Tal} {n : ℕ} (hlv : lv (dmaCell a c k) () ≤ n) (hO : Above n O) {sm : DmaSem sig} (hs : sm = dmaS a k)
    {sp sp' : Space} {s s' : Shape} {e e' : EltTy} {src : Memref sig .tc sp s e} {dst : Memref sig .tc sp' s' e'}
    {hsrc : src.view.WordExact} {hdst : dst.view.WordExact} (hN : dst.view.dmaCredit = N) {α : Type} {Q : α → sProp 𝕄}
    {kt : PUnit → Prog (TpuEff nD τ sig (Elt F) Λ₀ .tc) α} :
    iprop(records m ρ K ∗ levAts L lv ∗ owesE c O ∗ WaitSt m ρ c a k.val)
      ⊢ iprop(((owesE c O ∗ WaitSt m ρ c a (k.val + 1)) -∗ WP c (kt ⟨⟩) Q) -∗ WP c (.op (.waitDma2 sm src dst hsrc hdst) kt) Q) := by
  subst hs
  unfold owesE WaitSt
  rw [from_step, before_step]
  iintro ⟨#HR, #Hlev, ⟨%W, HO⟩, ⟨⟨Hc, Hat⟩, Hf⟩, Hb⟩ Hk
  iapply (Rounds.wp_wait_rest_token 𝒱₀ ER (plan m ρ) (c : Thread nD τ) none (κ := K (c, .inr (a, k))) (k' := N)
      (fun Kt => (wpE_waitDma2_eq 𝒱₀ (c : Thread nD τ) none Set.univ Kt).trans (by rw [hN])) (Set.mem_univ _) () (O := O) (W := W) (R := 0) (m := 0) (T := ∅)
      (by rw [Nat.zero_add, expect_dma])) $$ [Hc HO Hat]
  · isplitr; · iapply (inv_dma m ρ K a c k); iexact HR
    isplitl [Hc]; · iexact Hc
    isplitl [HO]; · iexact HO
    isplitr; · iapply (mayWait c (.dma (dmaS a k)) O hlv hO); iexact Hlev
    iexact Hat
  iintro ⟨HO, Hat, -, Hpay⟩
  ihave Hp := (Entails.of_eq (rest_dma m ρ c a k)) $$ Hpay
  iapply Hk
  isplitl [HO]; · iexists _; iexact HO
  isplitl [Hf]; · iexact Hf
  isplitr [Hb]
  · isplitl [Hat] <;> iassumption
  iexact Hb

/-! ## Sends -/

/-- A send of a block this device holds (share `q`) onto one lent by `n`, paying both duties. -/
theorem wp_send_owns (n : Dev nD) {t : Dev nD} (ht : t = n) (a a' : Fin 4) (k k' : Fin 7) {src dst : Memref sig .tc .vmem S96x768 .bf16} (q : PosShare TreeShare)
    (w w' : S96x768.Idx → Elt F .bf16) (hN : dst.view.dmaCredit = N) {sS sR : DmaSem sig} (hsS : sS = dmaS a k) (hsR : sR = dmaS a' k')
    (hp : ownsTc c src q w ⊢ pay m ρ c a k) (hp' : ownsTc n dst fullShare w ⊢ pay m ρ n a' k')
    {hsc : dst.view.ref.isScScratch = false} {hsrc : src.view.WordExact} {hdst : dst.view.WordExact}
    {hsem : DmaTarget.Typed .vmem (.dma sR) (.remote (t : Thread nD τ) dst (.dma sS) hsc)}
    (O : Tal) {α : Type} {Q : α → sProp 𝕄} {kt : PUnit → Prog (TpuEff nD τ sig (Elt F) Λ₀ .tc) α} :
    iprop(records m ρ K ∗ ownsTc c src q w ∗ ownsTc n dst fullShare w' ∗ owesE c (O + tallyAt (dmaCell a' n k') () N)
        ∗ dutyTok ER (dmaCell a c k) 0 0 ∗ dutyTok ER (dmaCell a' n k') 0 0)
      ⊢ iprop(((cred (tallyAt (dmaCell a c k) () N) ∗ owesE c O) -∗ WP c (kt ⟨⟩) Q)
        -∗ WP c (.op (.enqueueDma src (.remote (t : Thread nD τ) dst (.dma sS) hsc) (.dma sR) hsrc hdst hsem) kt) Q) := by
  obtain rfl := ht
  subst hsS hsR
  unfold owesE
  have hs : ownsTc c src q w ⊢ (iprop(∃ f, ⌜src.view.read (Elt F) f = w⌝ ∗ (src.view.loc (c : Thread nD τ) ↦[src.view.set]{q} f)) : sProp 𝕄) := .rfl
  have hd : ownsTc t dst fullShare w' ⊢ (iprop(∃ f, ⌜dst.view.read (Elt F) f = w'⌝ ∗ (dst.view.loc (t : Thread nD τ) ↦[dst.view.set]{fullShare} f)) : sProp 𝕄) := .rfl
  iintro ⟨#HR, Hsrc, Hdst, ⟨%W, HO⟩, Ht, Ht'⟩ Hk
  ihave Hsrc := hs $$ Hsrc
  ihave Hdst := hd $$ Hdst
  icases Hsrc with ⟨%fs, %hfs, Hsrc⟩
  icases Hdst with ⟨%fd, %hfd, Hdst⟩
  iapply (Rounds.wp_send_pointsTo 𝒱₀ ER (plan m ρ) (c : Thread nD τ) none (c' := (t : Thread nD τ)) (κ₁ := K (c, .inr (a, k))) (κ₂ := K (t, .inr (a', k')))
      (r₁ := 0) (r₂ := 0) (d₁ := 0) (d₂ := 0) (fs := fs) (fd := fd) (q := q)
      (by rw [duties_dma]; exact Finset.mem_singleton_self _) (by rw [duties_dma]; exact Finset.mem_singleton_self _)
      () () N (show dst.view.amount (.dma (dmaS a' k')) = N from hN) (amount_dma m ρ c a k 0) (amount_dma m ρ t a' k' 0) O rfl (W := W)
      (by rw [payload_dma]; rw [← hfs] at hp; exact (owns_intro (c : Thread nD τ) src q fs).trans hp)
      (by
        rw [payload_dma]; rw [← hfs] at hp'
        refine (owns_intro (t : Thread nD τ) dst fullShare _).trans ?_
        rw [View.read_write_univ]; exact hp')) $$ [Hsrc Hdst HO Ht Ht']
  · isplitr; · iapply (inv_dma m ρ K a c k); iexact HR
    isplitr; · iapply (inv_dma m ρ K a' t k'); iexact HR
    isplitl [Hsrc]; · iexact Hsrc
    isplitl [Hdst]; · iexact Hdst
    isplitl [HO]; · iexact HO
    isplitl [Ht]; · iexact Ht
    isplitr; · iapply (reached_dma m ρ K a c k); iexact HR
    isplitl [Ht']; · iexact Ht'
    iapply (reached_dma m ρ K a' t k'); iexact HR
  iintro ⟨Hc, HO⟩
  iapply Hk
  isplitl [Hc]; · iexact Hc
  iexists W; iexact HO

end Cert.Mlp

end
-- ==== Proof.Scatter.lean ====
/-
# The reduce-scatter's first half: every partial product computed, rounded and sent

The eight blocks are worked through in order. Block `j` of the two buffers is written, and sent to device `j` unless
`j` is this device.
-/
module

public import proofs.«01_k».proof.Proof.Comm

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

/-! ## Semaphores by number -/

theorem sem_inb (k : Fin 7) : ∀ a, (![k.val] : Fin 1 → ℕ) a + S1.size a ≤ S7.size a := by revert k; decide
theorem sem_at0 (k : Fin 7) : ((cc0_scratch3.slice (Rect.unit (s := S7) ![k.val] S1.size (sem_inb k))).squeeze S_ squeezes_S1_S_).sem = dmaS 0 k := by
  revert k; decide +kernel
theorem sem_at1 (k : Fin 7) : ((cc0_scratch4.slice (Rect.unit (s := S7) ![k.val] S1.size (sem_inb k))).squeeze S_ squeezes_S1_S_).sem = dmaS 1 k := by
  revert k; decide +kernel
theorem sem_at2 (k : Fin 7) : ((cc0_scratch5.slice (Rect.unit (s := S7) ![k.val] S1.size (sem_inb k))).squeeze S_ squeezes_S1_S_).sem = dmaS 2 k := by
  revert k; decide +kernel
theorem sem_at3 (k : Fin 7) : ((cc0_scratch6.slice (Rect.unit (s := S7) ![k.val] S1.size (sem_inb k))).squeeze S_ squeezes_S1_S_).sem = dmaS 3 k := by
  revert k; decide +kernel

/-! ## The partial products -/

abbrev anyP (j : Dev nD) : sProp 𝕄 := iprop(∃ w, ownsTc c (chunk pM j) fullShare w)
abbrev anyB (j : Dev nD) : sProp 𝕄 := iprop(∃ w, ownsTc c (chunk bM j) fullShare w)
abbrev hasP (j : Dev nD) : sProp 𝕄 := ownsTc c (chunk pM j) fullShare (part m ρ c j)
abbrev hasB (j : Dev nD) : sProp 𝕄 := ownsTc c (chunk bM j) fullShare (partB m ρ c j)

/-- What the send to `j` needs besides the block: both duties, and `j`'s landing slot. -/
def kit (j : Dev nD) : sProp 𝕄 :=
  if j = c then iprop(emp) else
    iprop(dutyTok ER (dmaCell 0 c (slot c j)) 0 0 ∗ dutyTok ER (dmaCell 1 j (slot c j)) 0 0 ∗ ∃ w, ownsTc j (slotM (slot c j)) fullShare w)
/-- What is left of block `j` of the send buffer once its send is issued. -/
def sent (j : Dev nD) : sProp 𝕄 :=
  if j = c then anyB c c else cred (tallyAt (dmaCell 0 c (slot c j)) () N)

def todo (j : Dev nD) : sProp 𝕄 := iprop(anyP c j ∗ anyB c j ∗ kit c j)
def done (j : Dev nD) : sProp 𝕄 := iprop(hasP m ρ c j ∗ sent c j)

/-- Before block `j`: the two buffers' blocks `j` in the states `A` and `B`, and everything else. -/
def RsX (A B : Dev nD → sProp 𝕄) (j : Dev nD) : sProp 𝕄 :=
  iprop(A j ∗ B j ∗ kit c j ∗ owesE c (oweA c 0 + oweR c j.val) ∗ from_ (j.val + 1) (todo (F := F) c) ∗ before_ j.val (done m ρ c))
def RsSt (n : ℕ) : sProp 𝕄 := iprop(owesE c (oweA c 0 + oweR c n) ∗ from_ n (todo (F := F) c) ∗ before_ n (done m ρ c))

theorem rs_open (j : Dev nD) : RsSt m ρ c j.val ⊢ RsX m ρ c (anyP c) (anyB c) j := by
  unfold RsSt RsX; rw [from_step]; unfold todo
  iintro ⟨HO, ⟨⟨HA, HB, HK⟩, Hf⟩, Hb⟩
  isplitl [HA]; · iexact HA
  isplitl [HB]; · iexact HB
  isplitl [HK]; · iexact HK
  isplitl [HO]; · iexact HO
  isplitl [Hf] <;> iassumption

section Rows
variable (j : Dev nD) {off : Fin 2 → ℕ} (ho : off = ![96 * j.val, 0]) {hi : ∀ a, off a + S96x768.size a ≤ S768x768.size a}
  {α : Type}
include ho

theorem rs_load_p (B : Dev nD → sProp 𝕄) {hl : (pM : Memref sig .tc .vmem S768x768 .f32).view.LoadsAt (Rect.unit (s := S768x768) off S96x768.size hi).toLoadRect}
    {Q : α → sProp 𝕄} {kt : (S96x768.Idx → Elt F .f32) → Prog (TpuEff nD τ sig (Elt F) Λ₀ .tc) α} :
    RsX m ρ c (anyP c) B j ⊢ iprop((∀ w, RsX m ρ c (anyP c) B j -∗ WP c (kt w) Q)
        -∗ WP c (.op (.load pM (Rect.unit (s := S768x768) off S96x768.size hi).toLoadRect hl) kt) Q) := by
  unfold RsX
  iintro ⟨⟨%w, HA⟩, Hr⟩ Hk
  iapply (wp_load_row c pM j ho fullShare w) $$ HA; iintro HA
  iapply Hk $$ %w [HA Hr]
  isplitl [HA]; · iexists w; iexact HA
  iexact Hr

theorem rs_store_p (B : Dev nD → sProp 𝕄) {w : S96x768.Idx → Elt F .f32} (hw : w = part m ρ c j)
    {hx : (pM.access (Rect.unit (s := S768x768) off S96x768.size hi)).Stores Finset.univ} {hm}
    {Q : α → sProp 𝕄} {kt : PUnit → Prog (TpuEff nD τ sig (Elt F) Λ₀ .tc) α} :
    RsX m ρ c (anyP c) B j ⊢ iprop((RsX m ρ c (hasP m ρ c) B j -∗ WP c (kt ⟨⟩) Q)
        -∗ WP c (.op (.store pM (Rect.unit (s := S768x768) off S96x768.size hi) w Finset.univ hx hm) kt) Q) := by
  subst hw
  unfold RsX
  iintro ⟨⟨%w, HA⟩, Hr⟩ Hk
  iapply (wp_store_row c pM j ho w (part m ρ c j)) $$ HA; iintro HA
  iapply Hk
  isplitl [HA] <;> iassumption

theorem rs_load_b (A : Dev nD → sProp 𝕄) {hl : (bM : Memref sig .tc .vmem S768x768 .bf16).view.LoadsAt (Rect.unit (s := S768x768) off S96x768.size hi).toLoadRect}
    {Q : α → sProp 𝕄} {kt : (S96x768.Idx → Elt F .bf16) → Prog (TpuEff nD τ sig (Elt F) Λ₀ .tc) α} :
    RsX m ρ c A (anyB c) j ⊢ iprop((∀ w, RsX m ρ c A (anyB c) j -∗ WP c (kt w) Q)
        -∗ WP c (.op (.load bM (Rect.unit (s := S768x768) off S96x768.size hi).toLoadRect hl) kt) Q) := by
  unfold RsX
  iintro ⟨HA, ⟨%w, HB⟩, Hr⟩ Hk
  iapply (wp_load_row c bM j ho fullShare w) $$ HB; iintro HB
  iapply Hk $$ %w [HA HB Hr]
  isplitl [HA]; · iexact HA
  isplitl [HB]; · iexists w; iexact HB
  iexact Hr

theorem rs_store_b (A : Dev nD → sProp 𝕄) {w : S96x768.Idx → Elt F .bf16} (hw : w = partB m ρ c j)
    {hx : (bM.access (Rect.unit (s := S768x768) off S96x768.size hi)).Stores Finset.univ} {hm}
    {Q : α → sProp 𝕄} {kt : PUnit → Prog (TpuEff nD τ sig (Elt F) Λ₀ .tc) α} :
    RsX m ρ c A (anyB c) j ⊢ iprop((RsX m ρ c A (hasB m ρ c) j -∗ WP c (kt ⟨⟩) Q)
        -∗ WP c (.op (.store bM (Rect.unit (s := S768x768) off S96x768.size hi) w Finset.univ hx hm) kt) Q) := by
  subst hw
  unfold RsX
  iintro ⟨HA, ⟨%w, HB⟩, Hr⟩ Hk
  iapply (wp_store_row c bM j ho w (partB m ρ c j)) $$ HB; iintro HB
  iapply Hk
  isplitl [HA]; · iexact HA
  isplitl [HB] <;> iassumption

/-- Block `j` goes out, unless it is this device's own. -/
theorem rs_send {P : Prop} [Decidable P] (hP : P ↔ j ≠ c) {o1 : Fin 1 → ℕ} {o2 : Fin 3 → ℕ} (h1 : j ≠ c → o1 = ![(slot c j).val])
    (h2 : j ≠ c → o2 = ![(slot c j).val, 0, 0]) {hi1 : P → ∀ a, o1 a + S1.size a ≤ S7.size a} {hi2 : P → ∀ a, o2 a + S1x96x768.size a ≤ S7x96x768.size a}
    {dst : P → Dev nD} (hdst : ∀ h, dst h = j)
    {hsc : ∀ h, ((rM.slice (Rect.unit (s := S7x96x768) o2 S1x96x768.size (hi2 h)) (fun _ => rfl)).squeeze S96x768 squeezes_S1x96x768_S96x768 : Memref sig .tc .vmem S96x768 .bf16).view.ref.isScScratch = false}
    {hw : (bM.slice (Rect.unit (s := S768x768) off S96x768.size hi) (fun _ => rfl) : Memref sig .tc .vmem S96x768 .bf16).view.WordExact}
    {hwd : ∀ h, ((rM.slice (Rect.unit (s := S7x96x768) o2 S1x96x768.size (hi2 h)) (fun _ => rfl)).squeeze S96x768 squeezes_S1x96x768_S96x768 : Memref sig .tc .vmem S96x768 .bf16).view.WordExact}
    {hsem : ∀ h, DmaTarget.Typed .vmem (.dma ((cc0_scratch4.slice (Rect.unit (s := S7) o1 S1.size (hi1 h))).squeeze S_ squeezes_S1_S_).sem)
      (.remote (dst h : Thread nD τ) ((rM.slice (Rect.unit (s := S7x96x768) o2 S1x96x768.size (hi2 h)) (fun _ => rfl)).squeeze S96x768 squeezes_S1x96x768_S96x768 : Memref sig .tc .vmem S96x768 .bf16)
        (.dma ((cc0_scratch3.slice (Rect.unit (s := S7) o1 S1.size (hi1 h))).squeeze S_ squeezes_S1_S_).sem) (hsc h))}
    {α : Type} {Q : α → sProp 𝕄} {kt : Prog (TpuEff nD τ sig (Elt F) Λ₀ .tc) α} :
    iprop(records m ρ K ∗ RsX m ρ c (hasP m ρ c) (hasB m ρ c) j)
      ⊢ iprop((RsSt m ρ c (j.val + 1) -∗ WP c kt Q)
        -∗ WP c (if h : P then
            .op (.enqueueDma (bM.slice (Rect.unit (s := S768x768) off S96x768.size hi) (fun _ => rfl))
              (.remote (dst h : Thread nD τ) ((rM.slice (Rect.unit (s := S7x96x768) o2 S1x96x768.size (hi2 h)) (fun _ => rfl)).squeeze S96x768 squeezes_S1x96x768_S96x768)
                (.dma ((cc0_scratch3.slice (Rect.unit (s := S7) o1 S1.size (hi1 h))).squeeze S_ squeezes_S1_S_).sem) (hsc h))
              (.dma ((cc0_scratch4.slice (Rect.unit (s := S7) o1 S1.size (hi1 h))).squeeze S_ squeezes_S1_S_).sem) hw (hwd h) (hsem h)) (fun _ => kt)
          else kt) Q) := by
  subst ho
  by_cases h : P
  · have hj : j ≠ c := hP.mp h
    obtain rfl := h1 hj
    obtain rfl := h2 hj
    rw [dif_pos h]
    unfold RsX RsSt
    rw [before_step, oweR_step c j hj]
    unfold done kit sent
    rw [if_neg hj, if_neg hj]
    iintro ⟨#HR, HA, HB, ⟨Ht, Ht', ⟨%w, Hs⟩⟩, HO, Hf, Hb⟩ Hk
    iapply (wp_send_owns m ρ K c j (hdst h) 0 1 (slot c j) (slot c j) fullShare (partB m ρ c j) w credit_slot (sem_at0 _) (sem_at1 _)
      (by unfold pay; rw [fwd_slot c j hj]; iintro H; iexists _; iexact H)
      (by unfold pay; rw [bwd_slot c j hj]) (oweA c 0 + oweR c (j.val + 1))) $$ [HB Ht Ht' Hs HO]
    · isplitr; · iexact HR
      isplitl [HB]; · iexact HB
      isplitl [Hs]; · iexact Hs
      isplitl [HO]; · rw [add_assoc]; iexact HO
      isplitl [Ht] <;> iassumption
    iintro ⟨Hc, HO⟩
    iapply Hk
    isplitl [HO]; · iexact HO
    isplitl [Hf]; · iexact Hf
    isplitr [Hb]
    · isplitl [HA]; · iexact HA
      iexact Hc
    iexact Hb
  · have hj : j = c := by by_contra hj; exact h (hP.mpr hj)
    subst hj
    rw [dif_neg h]
    unfold RsX RsSt
    rw [before_step, oweR_skip]
    unfold done sent
    rw [if_pos rfl]
    iintro ⟨#HR, HA, HB, HK, HO, Hf, Hb⟩ Hk
    iapply Hk
    isplitl [HO]; · iexact HO
    isplitl [Hf]; · iexact Hf
    isplitr [Hb]
    · isplitl [HA]; · iexact HA
      iexists _; iexact HB
    iexact Hb

end Rows

end Cert.Mlp

end
-- ==== Proof.Gather.lean ====
/-
# The reduction and the all-gather

The seven partial products that arrive are read one after another; the finished rows go out to the seven others.
-/
module

public import proofs.«01_k».proof.Proof.Scatter

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

/-! ## Reading what arrived -/

/-- Loading landing slot `i` once its wait is over. -/
theorem rv_load (i : Fin 7) (n : ℕ) (hn : i.val < n) {off : Fin 3 → ℕ} (ho : off = ![i.val, 0, 0])
    {hi : ∀ a, off a + S1x96x768.size a ≤ S7x96x768.size a}
    {hl : (rM : Memref sig .tc .vmem S7x96x768 .bf16).view.LoadsAt (Rect.unit (s := S7x96x768) off S1x96x768.size hi).toLoadRect}
    {α : Type} {Q : α → sProp 𝕄} {kt : (S1x96x768.Idx → Elt F .bf16) → Prog (TpuEff nD τ sig (Elt F) Λ₀ .tc) α} :
    WaitSt m ρ c 1 n
      ⊢ iprop((∀ x, ⌜shapeCast S96x768 x shapeCasts_S1x96x768_S96x768 = partB m ρ (bwd c i) c⌝ -∗ WaitSt m ρ c 1 n -∗ WP c (kt x) Q)
        -∗ WP c (.op (.load rM (Rect.unit (s := S7x96x768) off S1x96x768.size hi).toLoadRect hl) kt) Q) := by
  have ht : before_ n (fun k : Fin 7 => iprop(atPos ER (dmaCell 1 c k) 1 ∅ 0 ∗ pay m ρ c 1 k))
      ⊢ iprop((atPos ER (dmaCell 1 c i) 1 ∅ 0 ∗ ownsTc c (slotM i) fullShare (partB m ρ (bwd c i) c))
        ∗ ((atPos ER (dmaCell 1 c i) 1 ∅ 0 ∗ ownsTc c (slotM i) fullShare (partB m ρ (bwd c i) c))
          -∗ before_ n (fun k : Fin 7 => iprop(atPos ER (dmaCell 1 c k) 1 ∅ 0 ∗ pay m ρ c 1 k)))) := before_take n i hn _
  unfold WaitSt
  iintro ⟨Hf, Hb⟩ Hk
  ihave Hb := ht $$ Hb
  icases Hb with ⟨⟨Hat, Hs⟩, Hback⟩
  iapply (wp_load_slot c i fullShare (partB m ρ (bwd c i) c) ho) $$ Hs
  iintro %x %hx Hs
  iapply Hk $$ %x %hx [Hf Hat Hs Hback]
  isplitl [Hf]; · iexact Hf
  iapply Hback
  isplitl [Hat] <;> iassumption

/-- Loading this device's own partial product, all eight being computed. -/
theorem own_load {off : Fin 2 → ℕ} (ho : off = ![96 * c.val, 0]) {hi : ∀ a, off a + S96x768.size a ≤ S768x768.size a}
    {hl : (pM : Memref sig .tc .vmem S768x768 .f32).view.LoadsAt (Rect.unit (s := S768x768) off S96x768.size hi).toLoadRect}
    {α : Type} {Q : α → sProp 𝕄} {kt : (S96x768.Idx → Elt F .f32) → Prog (TpuEff nD τ sig (Elt F) Λ₀ .tc) α} :
    before_ 8 (done m ρ c) ⊢ iprop((before_ 8 (done m ρ c) -∗ WP c (kt (part m ρ c c)) Q)
        -∗ WP c (.op (.load pM (Rect.unit (s := S768x768) off S96x768.size hi).toLoadRect hl) kt) Q) := by
  have ht : before_ 8 (done m ρ c)
      ⊢ iprop((hasP m ρ c c ∗ sent c c) ∗ ((hasP m ρ c c ∗ sent c c) -∗ before_ 8 (done m ρ c))) := before_take 8 c c.isLt _
  iintro Hb Hk
  ihave Hb := ht $$ Hb
  icases Hb with ⟨⟨Hp, Hs⟩, Hback⟩
  iapply (wp_load_row c pM c ho fullShare (part m ρ c c)) $$ Hp
  iintro Hp
  iapply Hk
  iapply Hback
  isplitl [Hp] <;> iassumption

/-! ## The all-gather's sends -/

/-- What send `k` needs: both duties, the rows lent by the receiver, and its share of the finished rows. -/
def agKit (k : Fin 7) : sProp 𝕄 :=
  iprop(dutyTok ER (dmaCell 2 c k) 0 0 ∗ dutyTok ER (dmaCell 3 (fwd c k) k) 0 0 ∗ (∃ w, ownsTc (fwd c k) (chunk oM c) fullShare w)
    ∗ ownsTc c (chunk oM c) (agq k) (red m ρ c))
def AgSt (n : ℕ) : sProp 𝕄 :=
  iprop(owesE c (oweA c n) ∗ from_ n (agKit m ρ c) ∗ before_ n (fun k : Fin 7 => (cred (tallyAt (dmaCell 2 c k) () N) : sProp 𝕄)))

theorem ag_send (k : Fin 7) {dst : Dev nD} (hd : dst = fwd c k) {off : Fin 2 → ℕ} (ho : off = ![96 * c.val, 0])
    {hi : ∀ a, off a + S96x768.size a ≤ S768x768.size a} {sS sR : DmaSem sig} (hsS : sS = dmaS 2 k) (hsR : sR = dmaS 3 k)
    {hsc : (oM.slice (Rect.unit (s := S768x768) off S96x768.size hi) (fun _ => rfl) : Memref sig .tc .vmem S96x768 .bf16).view.ref.isScScratch = false}
    {hw hw' : (oM.slice (Rect.unit (s := S768x768) off S96x768.size hi) (fun _ => rfl) : Memref sig .tc .vmem S96x768 .bf16).view.WordExact}
    {hsem : DmaTarget.Typed .vmem (.dma sR) (.remote (dst : Thread nD τ)
      (oM.slice (Rect.unit (s := S768x768) off S96x768.size hi) (fun _ => rfl) : Memref sig .tc .vmem S96x768 .bf16) (.dma sS) hsc)}
    {α : Type} {Q : α → sProp 𝕄} {kt : PUnit → Prog (TpuEff nD τ sig (Elt F) Λ₀ .tc) α} :
    iprop(records m ρ K ∗ AgSt m ρ c k.val)
      ⊢ iprop((AgSt m ρ c (k.val + 1) -∗ WP c (kt ⟨⟩) Q)
        -∗ WP c (.op (.enqueueDma (oM.slice (Rect.unit (s := S768x768) off S96x768.size hi) (fun _ => rfl))
            (.remote (dst : Thread nD τ) (oM.slice (Rect.unit (s := S768x768) off S96x768.size hi) (fun _ => rfl)) (.dma sS) hsc) (.dma sR) hw hw' hsem) kt) Q) := by
  subst ho
  unfold AgSt
  rw [from_step, before_step, oweA_step]
  unfold agKit
  iintro ⟨#HR, HO, ⟨⟨Ht, Ht', ⟨%w, Hd⟩, Hs⟩, Hf⟩, Hb⟩ Hk
  iapply (wp_send_owns m ρ K c (fwd c k) hd 2 3 k k (agq k) (red m ρ c) w credit_out hsS hsR
    (by unfold pay; exact .rfl) (by unfold pay; rw [bwd_fwd]) (oweA c (k.val + 1))) $$ [Ht Ht' Hd Hs HO]
  · isplitr; · iexact HR
    isplitl [Hs]; · iexact Hs
    isplitl [Hd]; · iexact Hd
    isplitl [HO]; · iexact HO
    isplitl [Ht] <;> iassumption
  iintro ⟨Hc, HO⟩
  iapply Hk
  isplitl [HO]; · iexact HO
  isplitl [Hf]; · iexact Hf
  isplitl [Hc] <;> iassumption

/-- Owning a view at contents `X` is its points-to at any buffer contents read as `X`. -/
theorem owns_at {sp : Space} {sh : Shape} {e : EltTy} (M : Memref sig .tc sp sh e) (q : PosShare TreeShare) (X : sh.Idx → Elt F e)
    (f : M.view.ty.Contents (Elt F)) (hf : M.view.read (Elt F) f = X) :
    (ownsTc c M q X : sProp 𝕄) ⊢ (M.view.loc (c : Thread nD τ) ↦[M.view.set]{q} f) := by
  unfold ownsTc owns
  iintro ⟨%g, %hg, H⟩
  ihave H := (Entails.of_eq (pointsTo_congr (f := g) (g := f) fun i hi => by
    obtain ⟨x, -, rfl⟩ := Finset.mem_map.mp hi
    have := congrFun (hg.trans hf.symm) x
    simpa [View.read] using this)) $$ H
  iexact H

/-- The finished rows dealt out to the seven sends, -/
theorem ag_deal (w : S96x768.Idx → Elt F .bf16) :
    (ownsTc c (chunk oM c) fullShare w : sProp 𝕄) ⊢ bigSep Finset.univ fun k : Fin 7 => ownsTc c (chunk oM c) (agq k) w := by
  let f := (chunk oM c).view.write (Elt F) (Classical.arbitrary _) w Finset.univ
  have hf : (chunk oM c).view.read (Elt F) f = w := View.read_write_univ _ w
  refine (owns_at c (chunk oM c) fullShare w f hf).trans ?_
  rw [Transfers.pointsTo_deal (Finset.univ : Finset (Fin 7)) Finset.univ_nonempty fullShare]
  refine bigSep_mono fun k _ => ?_
  exact hf ▸ owns_intro (c : Thread nD τ) (chunk oM c) (agq k) f

/-- and gathered back. -/
theorem ag_join (w : S96x768.Idx → Elt F .bf16) :
    (bigSep Finset.univ fun k : Fin 7 => ownsTc c (chunk oM c) (agq k) w : sProp 𝕄) ⊢ ownsTc c (chunk oM c) fullShare w := by
  let f := (chunk oM c).view.write (Elt F) (Classical.arbitrary _) w Finset.univ
  have hf : (chunk oM c).view.read (Elt F) f = w := View.read_write_univ _ w
  refine BI.Entails.trans ?_ (hf ▸ owns_intro (c : Thread nD τ) (chunk oM c) fullShare f)
  rw [Transfers.pointsTo_deal (Finset.univ : Finset (Fin 7)) Finset.univ_nonempty fullShare]
  exact bigSep_mono fun k _ => owns_at c (chunk oM c) (agq k) w f hf

end Cert.Mlp

end
-- ==== Proof.Parts1.lean ====
/-
# The body up to the first block: the barrier
-/
module

public import proofs.«01_k».proof.Proof.Gather

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

variable {α : Type}

abbrev hX : sProp 𝕄 := ownsTc c xM fullShare (xs m ρ c)
abbrev hW1 : sProp 𝕄 := ownsTc c w1M fullShare (w1s m ρ c)
abbrev hW2 : sProp 𝕄 := ownsTc c w2M fullShare (w2s m ρ c)
/-- The two weight blocks as the body uses them. -/
abbrev v1 : FVec F S768x1536 .bf16 := k0_pay1 (w1s m ρ c)
abbrev v2 : FVec F S1536x768 .bf16 := k0_pay2 (w2s m ρ c)
abbrev xrow (j : Dev nD) : Vec F S96x768 .bf16 := fun i => xs m ρ c ((rowR j).emb i)

/-- The receivers' rows this device will fill. -/
def lentOut : sProp 𝕄 := bigSep Finset.univ fun k : Fin 7 => iprop(∃ w, ownsTc (fwd c k) (chunk oM c) fullShare w)
/-- The duties of the sends of partial products. -/
def rsToks : sProp 𝕄 :=
  bigSep Finset.univ fun k : Fin 7 => iprop(dutyTok ER (dmaCell 0 c k) 0 0 ∗ dutyTok ER (dmaCell 1 (fwd c k) k) 0 0)

theorem kits : iprop(rsToks (F := F) c ∗ bigSep Finset.univ (lend (F := F) c)) ⊢ iprop((bigSep Finset.univ fun j => kit (F := F) c j) ∗ lentOut c) := by
  have he : (bigSep Finset.univ fun j => kit (F := F) c j) = iprop(kit c c ∗ bigSep Finset.univ fun k : Fin 7 => kit (F := F) c (fwd c k)) := by
    rw [show (bigSep Finset.univ fun j => kit (F := F) c j) = iprop(kit c c ∗ bigSep (Finset.univ.erase c) fun j => kit (F := F) c j) from
      bigSep_erase (Finset.mem_univ c), univ_erase, bigSep_map]
    rfl
  have hk : ∀ k : Fin 7, kit (F := F) c (fwd c k)
      = iprop(dutyTok ER (dmaCell 0 c k) 0 0 ∗ dutyTok ER (dmaCell 1 (fwd c k) k) 0 0 ∗ ∃ w, ownsTc (fwd c k) (slotM k) fullShare w) := fun k => by
    unfold kit; rw [if_neg (fwd_ne c k), slot_fwd]
  have h1 (k : Fin 7) : iprop((dutyTok ER (dmaCell 0 c k) 0 0 ∗ dutyTok ER (dmaCell 1 (fwd c k) k) 0 0) ∗ lend (F := F) c k)
      ⊢ iprop(kit (F := F) c (fwd c k) ∗ ∃ w, ownsTc (fwd c k) (chunk oM c) fullShare w) := by
    rw [hk]; unfold lend
    iintro ⟨⟨H1, H2⟩, H3, H4⟩
    isplitr [H4]
    · isplitl [H1]; · iexact H1
      isplitl [H2] <;> iassumption
    iexact H4
  have h : (bigSep Finset.univ fun k : Fin 7 => iprop((dutyTok ER (dmaCell 0 c k) 0 0 ∗ dutyTok ER (dmaCell 1 (fwd c k) k) 0 0) ∗ lend (F := F) c k))
      ⊢ bigSep Finset.univ fun k : Fin 7 => iprop(kit (F := F) c (fwd c k) ∗ ∃ w, ownsTc (fwd c k) (chunk oM c) fullShare w) :=
    bigSep_mono fun k _ => h1 k
  have hc : (iprop(emp) : sProp 𝕄) ⊢ kit (F := F) c c := by unfold kit; rw [if_pos rfl]
  rw [he]
  unfold rsToks lentOut
  iintro ⟨H1, H2⟩
  ihave H := (Entails.of_eq (bigSep_sep' (Finset.univ : Finset (Fin 7)) _ _).symm) $$ [H1 H2]
  · isplitl [H1] <;> iassumption
  ihave H := h $$ H
  ihave H := (Entails.of_eq (bigSep_sep' (Finset.univ : Finset (Fin 7)) _ _)) $$ H
  icases H with ⟨H1, H2⟩
  isplitl [H1]
  · isplitr; · iapply hc; iempintro
    iexact H1
  iexact H2

/-- After the barrier the partial products can be worked through. -/
theorem rs_start : iprop(owesE c (oweA c 0 + oweR c 0) ∗ (bigSep Finset.univ fun j => anyP (F := F) c j) ∗ (bigSep Finset.univ fun j => anyB (F := F) c j)
      ∗ rsToks c ∗ bigSep Finset.univ (lend (F := F) c)) ⊢ iprop(RsSt m ρ c 0 ∗ lentOut c) := by
  have ht : (bigSep Finset.univ fun j => todo (F := F) c j) = iprop((bigSep Finset.univ fun j => anyP (F := F) c j)
      ∗ (bigSep Finset.univ fun j => anyB (F := F) c j) ∗ bigSep Finset.univ fun j => kit (F := F) c j) := by
    unfold todo; rw [bigSep_sep', bigSep_sep']
  unfold RsSt
  rw [from_zero, before_zero, ht]
  iintro ⟨HO, HP, HB, HT, HL⟩
  ihave H := (kits c) $$ [HT HL]
  · isplitl [HT] <;> iassumption
  icases H with ⟨HK, HL⟩
  isplitr [HL]
  · isplitl [HO]; · iexact HO
    isplitl [HP HB HK]
    · isplitl [HP]; · iexact HP
      isplitl [HB] <;> iassumption
    iempintro
  iexact HL

theorem part1 {Q} : iprop(records m ρ K ∗ SigSt c 0)
    ⊢ iprop((∀ u v30 v31, SigSt c 2 -∗ Q ⟨c, u, SemArray.scalar (sig.barrier 0 rfl), v30, 8#32, v31⟩)
      -∗ WP c (k0_part1 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6) Q) := by
  rw [k0_part1_eq_skeleton]; unfold k0_part1_skel
  simp only [semSignalWord, semWaitWord, Prog.lift, Prog.bind_op, Prog.bind_ret, Prog.pure_eq_ret, wp_deviceId]
  iintro ⟨#HR, HS⟩ Hk
  iapply (wp_sig m ρ K c 0 (dev1 c) (by decide)) $$ [HS]
  · isplitr; · iexact HR
    iexact HS
  iintro HS
  iapply (wp_sig m ρ K c 1 (dev2 c) (by decide)) $$ [HS]
  · isplitr; · iexact HR
    iexact HS
  iintro HS
  simp only [wp_ret]
  imodintro
  iapply Hk; iexact HS

theorem part2 {Q} (v2 : BitVec 32) (v30 c8 v31) : iprop(records m ρ K ∗ SigSt c 2)
    ⊢ iprop((∀ a b e, SigSt c 4 -∗ Q ⟨a, b, e⟩)
      -∗ WP c (k0_part2 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c v2 (SemArray.scalar (sig.barrier 0 rfl)) v30 c8 v31) Q) := by
  rw [k0_part2_eq_skeleton]; unfold k0_part2_skel
  simp only [semSignalWord, semWaitWord, Prog.lift, Prog.bind_op, Prog.bind_ret, Prog.pure_eq_ret, wp_deviceId]
  iintro ⟨#HR, HS⟩ Hk
  iapply (wp_sig m ρ K c 2 (dev3 c) (by decide)) $$ [HS]
  · isplitr; · iexact HR
    iexact HS
  iintro HS
  iapply (wp_sig m ρ K c 3 (dev4 c) (by decide)) $$ [HS]
  · isplitr; · iexact HR
    iexact HS
  iintro HS
  simp only [wp_ret]
  imodintro
  iapply Hk; iexact HS

theorem part3 {Q} (v2 : BitVec 32) (v59 v64 v65) : iprop(records m ρ K ∗ SigSt c 4 ∗ hW1 m ρ c)
    ⊢ iprop(((SigSt c 7 ∗ hW1 m ρ c) -∗ Q (v1 m ρ c))
      -∗ WP c (k0_part3 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c v2 (SemArray.scalar (sig.barrier 0 rfl)) v59 v64 v65) Q) := by
  rw [k0_part3_eq_skeleton]; unfold k0_part3_skel
  simp only [semSignalWord, semWaitWord, Prog.lift, Prog.bind_op, Prog.bind_ret, Prog.pure_eq_ret, wp_deviceId]
  iintro ⟨#HR, HS, HW⟩ Hk
  iapply (wp_sig m ρ K c 4 (dev5 c) (by decide)) $$ [HS]
  · isplitr; · iexact HR
    iexact HS
  iintro HS
  iapply (wp_sig m ρ K c 5 (dev6 c) (by decide)) $$ [HS]
  · isplitr; · iexact HR
    iexact HS
  iintro HS
  iapply (wp_sig m ρ K c 6 (dev7 c) (by decide)) $$ [HS]
  · isplitr; · iexact HR
    iexact HS
  iintro HS
  iapply (wp_load_w1 c fullShare (w1s m ρ c)) $$ HW; iintro HW
  simp only [wp_ret]
  imodintro
  iapply Hk
  isplitl [HS]; · iexact HS
  iexact HW

theorem part4 {Q} (u2 : BitVec 32) : iprop(records m ρ K ∗ levAts L lv ∗ SigSt c 7 ∗ cred (tallyAt (barCell c) () 7) ∗ atPos ER (barCell c) 0 ∅ 0 ∗ (bigSep Finset.univ fun j => anyP (F := F) c j) ∗ (bigSep Finset.univ fun j => anyB (F := F) c j) ∗ rsToks c ∗ hX m ρ c ∗ hW2 m ρ c)
    ⊢ iprop(((RsSt m ρ c 1 ∗ lentOut c ∗ atPos ER (barCell c) 1 ∅ 0 ∗ hX m ρ c ∗ hW2 m ρ c) -∗ Q (v2 m ρ c))
      -∗ WP c (k0_part4 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 (SemArray.scalar (sig.barrier 0 rfl)) (v1 m ρ c)) Q) := by
  rw [k0_part4_eq_skeleton]; unfold k0_part4_skel
  simp only [semSignalWord, semWaitWord, Prog.lift, Prog.bind_op, Prog.bind_ret, Prog.pure_eq_ret, wp_deviceId]
  iintro ⟨#HR, #Hlev, HS, HC, Hat, HP, HB, HT, HX, HW⟩ Hk
  iapply (wp_load_w2 c fullShare (w2s m ρ c)) $$ HW; iintro HW
  unfold SigSt
  rw [show (oweB c 7 : Tal) = 0 from oweB_end c, add_zero]
  icases HS with ⟨HO, -⟩
  iapply (wp_bar m ρ K c (by decide)) $$ [HO HC Hat]
  · isplitr; · iexact HR
    isplitr; · iexact Hlev
    isplitl [HO]; · iexact HO
    isplitl [HC] <;> iassumption
  iintro ⟨HO, Hat, HL⟩
  ihave HS := (rs_start m ρ c) $$ [HO HP HB HT HL]
  · isplitl [HO]; · iexact HO
    isplitl [HP]; · iexact HP
    isplitl [HB]; · iexact HB
    isplitl [HT] <;> iassumption
  icases HS with ⟨HS, HL⟩
  ihave HS := (show RsSt m ρ c 0 ⊢ _ from rs_open m ρ c 0) $$ HS
  iapply (wp_load_x c 0 fullShare (xs m ρ c) rfl) $$ HX; iintro HX
  iapply (rs_load_p m ρ c 0 rfl (anyB c)) $$ HS; iintro %_ HS
  iapply (rs_store_p m ρ c 0 rfl (anyB c) rfl) $$ HS; iintro HS
  iapply (rs_load_b m ρ c 0 rfl (hasP m ρ c)) $$ HS; iintro %_ HS
  iapply (rs_store_b m ρ c 0 rfl (hasP m ρ c) rfl) $$ HS; iintro HS
  iapply (rs_send m ρ K c 0 rfl (cond1 c) (off1 c) (off2 c) (fun _ => rfl)) $$ [HS]
  · isplitr; · iexact HR
    iexact HS
  iintro HS
  simp only [wp_ret]
  imodintro
  iapply Hk
  isplitl [HS]; · iexact HS
  isplitl [HL]; · iexact HL
  isplitl [Hat]; · iexact Hat
  isplitl [HX]; · iexact HX
  iexact HW

end Cert.Mlp

end
-- ==== Proof.Parts2.lean ====
/-
# Blocks 1 to 7

Each block of rows is multiplied through both layers, kept, rounded for sending, and sent unless it is this device's own.
-/
module

public import proofs.«01_k».proof.Proof.Parts1

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

theorem part5 {Q} (u2 : BitVec 32) : iprop(records m ρ K ∗ RsSt m ρ c 1 ∗ hX m ρ c)
    ⊢ iprop(((RsSt m ρ c 2 ∗ hX m ρ c) -∗ Q ⟨k0_pay9 (v1 m ρ c) (xrow m ρ c 2), k0_pay10⟩)
      -∗ WP c (k0_part5 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 (v1 m ρ c) (v2 m ρ c)) Q) := by
  rw [k0_part5_eq_skeleton]; unfold k0_part5_skel
  simp only [semSignalWord, semWaitWord, Prog.lift, Prog.bind_op, Prog.bind_ret, Prog.pure_eq_ret, wp_deviceId]
  iintro ⟨#HR, HS, HX⟩ Hk
  ihave HS := (show RsSt m ρ c 1 ⊢ _ from rs_open m ρ c 1) $$ [HS]
  · iexact HS
  iapply (wp_load_x c 1 fullShare (xs m ρ c) rfl) $$ HX; iintro HX
  iapply (rs_load_p m ρ c 1 rfl (anyB c)) $$ HS; iintro %_ HS
  iapply (rs_store_p m ρ c 1 rfl (anyB c) rfl) $$ HS; iintro HS
  iapply (rs_load_b m ρ c 1 rfl (hasP m ρ c)) $$ HS; iintro %_ HS
  iapply (rs_store_b m ρ c 1 rfl (hasP m ρ c) rfl) $$ HS; iintro HS
  iapply (rs_send m ρ K c 1 rfl (cond2 c) (off3 c) (off4 c) (fun _ => rfl)) $$ [HS]
  · isplitr; · iexact HR
    iexact HS
  iintro HS
  iapply (wp_load_x c 2 fullShare (xs m ρ c) rfl) $$ HX; iintro HX
  simp only [wp_ret]
  imodintro
  iapply Hk
  isplitl [HS]; · iexact HS
  iexact HX

theorem part6 {Q} (u2 : BitVec 32) : iprop(records m ρ K ∗ RsSt m ρ c 2 ∗ hX m ρ c)
    ⊢ iprop((∀ w, (RsX m ρ c (anyP c) (anyB c) 3 ∗ hX m ρ c) -∗ Q ⟨k0_pay14 (v1 m ρ c) (v2 m ρ c) (xrow m ρ c 3), w⟩)
      -∗ WP c (k0_part6 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 (v1 m ρ c) (v2 m ρ c) (k0_pay9 (v1 m ρ c) (xrow m ρ c 2)) k0_pay10) Q) := by
  rw [k0_part6_eq_skeleton]; unfold k0_part6_skel
  simp only [semSignalWord, semWaitWord, Prog.lift, Prog.bind_op, Prog.bind_ret, Prog.pure_eq_ret, wp_deviceId]
  iintro ⟨#HR, HS, HX⟩ Hk
  ihave HS := (show RsSt m ρ c 2 ⊢ _ from rs_open m ρ c 2) $$ [HS]
  · iexact HS
  iapply (rs_load_p m ρ c 2 rfl (anyB c)) $$ HS; iintro %_ HS
  iapply (rs_store_p m ρ c 2 rfl (anyB c) rfl) $$ HS; iintro HS
  iapply (rs_load_b m ρ c 2 rfl (hasP m ρ c)) $$ HS; iintro %_ HS
  iapply (rs_store_b m ρ c 2 rfl (hasP m ρ c) rfl) $$ HS; iintro HS
  iapply (rs_send m ρ K c 2 rfl (cond3 c) (off5 c) (off6 c) (fun _ => rfl)) $$ [HS]
  · isplitr; · iexact HR
    iexact HS
  iintro HS
  ihave HS := (show RsSt m ρ c 3 ⊢ _ from rs_open m ρ c 3) $$ [HS]
  · iexact HS
  iapply (wp_load_x c 3 fullShare (xs m ρ c) rfl) $$ HX; iintro HX
  iapply (rs_load_p m ρ c 3 rfl (anyB c)) $$ HS; iintro %_ HS
  simp only [wp_ret]
  imodintro
  iapply Hk
  isplitl [HS]; · iexact HS
  iexact HX

theorem part7 {Q} (u2 : BitVec 32) (w) : iprop(records m ρ K ∗ RsX m ρ c (anyP c) (anyB c) 3 ∗ hX m ρ c)
    ⊢ iprop((∀ w, (RsX m ρ c (hasP m ρ c) (anyB c) 4 ∗ hX m ρ c) -∗ Q ⟨k0_pay19 (v1 m ρ c) (v2 m ρ c) (xrow m ρ c 4), w⟩)
      -∗ WP c (k0_part7 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 (v1 m ρ c) (v2 m ρ c) (k0_pay14 (v1 m ρ c) (v2 m ρ c) (xrow m ρ c 3)) w) Q) := by
  rw [k0_part7_eq_skeleton]; unfold k0_part7_skel
  simp only [semSignalWord, semWaitWord, Prog.lift, Prog.bind_op, Prog.bind_ret, Prog.pure_eq_ret, wp_deviceId]
  iintro ⟨#HR, HS, HX⟩ Hk
  iapply (rs_store_p m ρ c 3 rfl (anyB c) rfl) $$ HS; iintro HS
  iapply (rs_load_b m ρ c 3 rfl (hasP m ρ c)) $$ HS; iintro %_ HS
  iapply (rs_store_b m ρ c 3 rfl (hasP m ρ c) rfl) $$ HS; iintro HS
  iapply (rs_send m ρ K c 3 rfl (cond4 c) (off7 c) (off8 c) (fun _ => rfl)) $$ [HS]
  · isplitr; · iexact HR
    iexact HS
  iintro HS
  ihave HS := (show RsSt m ρ c 4 ⊢ _ from rs_open m ρ c 4) $$ [HS]
  · iexact HS
  iapply (wp_load_x c 4 fullShare (xs m ρ c) rfl) $$ HX; iintro HX
  iapply (rs_load_p m ρ c 4 rfl (anyB c)) $$ HS; iintro %_ HS
  iapply (rs_store_p m ρ c 4 rfl (anyB c) rfl) $$ HS; iintro HS
  iapply (rs_load_b m ρ c 4 rfl (hasP m ρ c)) $$ HS; iintro %_ HS
  simp only [wp_ret]
  imodintro
  iapply Hk
  isplitl [HS]; · iexact HS
  iexact HX

theorem part8 {Q} (u2 : BitVec 32) (w) : iprop(records m ρ K ∗ RsX m ρ c (hasP m ρ c) (anyB c) 4 ∗ hX m ρ c)
    ⊢ iprop((∀ w, (RsX m ρ c (hasP m ρ c) (hasB m ρ c) 5 ∗ hX m ρ c) -∗ Q w)
      -∗ WP c (k0_part8 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 (v1 m ρ c) (v2 m ρ c) (k0_pay19 (v1 m ρ c) (v2 m ρ c) (xrow m ρ c 4)) w) Q) := by
  rw [k0_part8_eq_skeleton]; unfold k0_part8_skel
  simp only [semSignalWord, semWaitWord, Prog.lift, Prog.bind_op, Prog.bind_ret, Prog.pure_eq_ret, wp_deviceId]
  iintro ⟨#HR, HS, HX⟩ Hk
  iapply (rs_store_b m ρ c 4 rfl (hasP m ρ c) rfl) $$ HS; iintro HS
  iapply (rs_send m ρ K c 4 rfl (cond5 c) (off9 c) (off10 c) (fun _ => rfl)) $$ [HS]
  · isplitr; · iexact HR
    iexact HS
  iintro HS
  ihave HS := (show RsSt m ρ c 5 ⊢ _ from rs_open m ρ c 5) $$ [HS]
  · iexact HS
  iapply (wp_load_x c 5 fullShare (xs m ρ c) rfl) $$ HX; iintro HX
  iapply (rs_load_p m ρ c 5 rfl (anyB c)) $$ HS; iintro %_ HS
  iapply (rs_store_p m ρ c 5 rfl (anyB c) rfl) $$ HS; iintro HS
  iapply (rs_load_b m ρ c 5 rfl (hasP m ρ c)) $$ HS; iintro %_ HS
  iapply (rs_store_b m ρ c 5 rfl (hasP m ρ c) rfl) $$ HS; iintro HS
  simp only [wp_ret]
  imodintro
  iapply Hk
  isplitl [HS]; · iexact HS
  iexact HX

theorem part9 {Q} (u2 w : BitVec 32) : iprop(records m ρ K ∗ RsX m ρ c (hasP m ρ c) (hasB m ρ c) 5 ∗ hX m ρ c)
    ⊢ iprop((∀ a b e, (RsX m ρ c (hasP m ρ c) (hasB m ρ c) 6 ∗ hX m ρ c) -∗ Q ⟨a, b, e⟩)
      -∗ WP c (k0_part9 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 (v1 m ρ c) (v2 m ρ c) w) Q) := by
  rw [k0_part9_eq_skeleton]; unfold k0_part9_skel
  simp only [semSignalWord, semWaitWord, Prog.lift, Prog.bind_op, Prog.bind_ret, Prog.pure_eq_ret, wp_deviceId]
  iintro ⟨#HR, HS, HX⟩ Hk
  iapply (rs_send m ρ K c 5 rfl (cond6 c) (off11 c) (off12 c) (fun _ => rfl)) $$ [HS]
  · isplitr; · iexact HR
    iexact HS
  iintro HS
  ihave HS := (show RsSt m ρ c 6 ⊢ _ from rs_open m ρ c 6) $$ [HS]
  · iexact HS
  iapply (wp_load_x c 6 fullShare (xs m ρ c) rfl) $$ HX; iintro HX
  iapply (rs_load_p m ρ c 6 rfl (anyB c)) $$ HS; iintro %_ HS
  iapply (rs_store_p m ρ c 6 rfl (anyB c) rfl) $$ HS; iintro HS
  iapply (rs_load_b m ρ c 6 rfl (hasP m ρ c)) $$ HS; iintro %_ HS
  iapply (rs_store_b m ρ c 6 rfl (hasP m ρ c) rfl) $$ HS; iintro HS
  simp only [wp_ret]
  imodintro
  iapply Hk
  isplitl [HS]; · iexact HS
  iexact HX

theorem part10 {Q} (u2 w w' w'' : BitVec 32) : iprop(records m ρ K ∗ RsX m ρ c (hasP m ρ c) (hasB m ρ c) 6 ∗ hX m ρ c)
    ⊢ iprop((∀ a b e, (RsX m ρ c (hasP m ρ c) (hasB m ρ c) 7 ∗ hX m ρ c) -∗ Q ⟨a, b, e⟩)
      -∗ WP c (k0_part10 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 (v1 m ρ c) (v2 m ρ c) w w' w'') Q) := by
  rw [k0_part10_eq_skeleton]; unfold k0_part10_skel
  simp only [semSignalWord, semWaitWord, Prog.lift, Prog.bind_op, Prog.bind_ret, Prog.pure_eq_ret, wp_deviceId]
  iintro ⟨#HR, HS, HX⟩ Hk
  iapply (rs_send m ρ K c 6 rfl (cond7 c) (off13 c) (off14 c) (fun _ => rfl)) $$ [HS]
  · isplitr; · iexact HR
    iexact HS
  iintro HS
  ihave HS := (show RsSt m ρ c 7 ⊢ _ from rs_open m ρ c 7) $$ [HS]
  · iexact HS
  iapply (wp_load_x c 7 fullShare (xs m ρ c) rfl) $$ HX; iintro HX
  iapply (rs_load_p m ρ c 7 rfl (anyB c)) $$ HS; iintro %_ HS
  iapply (rs_store_p m ρ c 7 rfl (anyB c) rfl) $$ HS; iintro HS
  iapply (rs_load_b m ρ c 7 rfl (hasP m ρ c)) $$ HS; iintro %_ HS
  iapply (rs_store_b m ρ c 7 rfl (hasP m ρ c) rfl) $$ HS; iintro HS
  simp only [wp_ret]
  imodintro
  iapply Hk
  isplitl [HS]; · iexact HS
  iexact HX

end Cert.Mlp

end
-- ==== Proof.Parts3.lean ====
/-
# The reduction

The partial products that arrive are added, one after another, onto this device's own; the sum is rounded and stored.
-/
module

public import proofs.«01_k».proof.Proof.Gather
public import proofs.«01_k».proof.Proof.Parts1

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

/-- Adding the received blocks, as the body groups the additions. -/
theorem sum1 {v : FVec F S96x768 .f32} {x : Vec F S1x96x768 .bf16} {w : FVec F S96x768 .bf16}
    (hx : shapeCast S96x768 x shapeCasts_S1x96x768_S96x768 = w) : k0_pay30 v x = add1 v w := by subst hx; rfl
theorem sum3 {v : FVec F S96x768 .f32} {x x' x'' : Vec F S1x96x768 .bf16} {w w' w'' : FVec F S96x768 .bf16}
    (hx : shapeCast S96x768 x shapeCasts_S1x96x768_S96x768 = w) (hx' : shapeCast S96x768 x' shapeCasts_S1x96x768_S96x768 = w')
    (hx'' : shapeCast S96x768 x'' shapeCasts_S1x96x768_S96x768 = w'') : k0_pay31 v x x' x'' = add1 (add1 (add1 v w) w') w'' := by
  subst hx hx' hx''; rfl
theorem sum2 {v : FVec F S96x768 .f32} {x x' : Vec F S1x96x768 .bf16} {w w' : FVec F S96x768 .bf16}
    (hx : shapeCast S96x768 x shapeCasts_S1x96x768_S96x768 = w) (hx' : shapeCast S96x768 x' shapeCasts_S1x96x768_S96x768 = w') :
    k0_pay32 v x x' = add1 (add1 v w) w' := by subst hx hx'; rfl
theorem sumEnd {v : FVec F S96x768 .f32} {x : Vec F S1x96x768 .bf16} {w : FVec F S96x768 .bf16}
    (hx : shapeCast S96x768 x shapeCasts_S1x96x768_S96x768 = w) : k0_pay33 v x = truncf .bf16 (add1 v w) bitsLt_bf16_f32 := by subst hx; rfl

theorem part11 {Q} (u2 w w' : BitVec 32) (w'') : iprop(records m ρ K ∗ levAts L lv ∗ RsX m ρ c (hasP m ρ c) (hasB m ρ c) 7 ∗ WaitSt m ρ c 1 0)
    ⊢ iprop(((owesE c (oweA c 0) ∗ before_ 8 (done m ρ c) ∗ WaitSt m ρ c 1 2) -∗ Q (acc m ρ c 1))
      -∗ WP c (k0_part11 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 w w' w'') Q) := by
  rw [k0_part11_eq_skeleton]; unfold k0_part11_skel
  simp only [semSignalWord, semWaitWord, Prog.lift, Prog.bind_op, Prog.bind_ret, Prog.pure_eq_ret, wp_deviceId]
  iintro ⟨#HR, #Hlev, HS, HW⟩ Hk
  have hend : iprop(RsSt m ρ c 8) ⊢ iprop(owesE c (oweA c 0) ∗ before_ 8 (done m ρ c)) := by
    unfold RsSt
    rw [oweR_end, add_zero]
    iintro ⟨HO, -, Hb⟩
    isplitl [HO] <;> iassumption
  iapply (rs_send m ρ K c 7 rfl (cond8 c) (off15 c) (off16 c) (fun _ => rfl)) $$ [HS]
  · isplitr; · iexact HR
    iexact HS
  iintro HS
  ihave HS := hend $$ [HS]
  · iexact HS
  icases HS with ⟨HO, HB⟩
  iapply (own_load m ρ c (k0_off17_eq c)) $$ HB; iintro HB
  iapply (wp_wait_dma m ρ K c 1 0 (n := 2) (by rw [lv_dma]; decide) (above_A c 0) (sem_at1 0) credit_slot) $$ [HO HW]
  · isplitr; · iexact HR
    isplitr; · iexact Hlev
    isplitl [HO]; · iexact HO
    iexact HW
  iintro ⟨HO, HW⟩
  iapply (rv_load m ρ c 0 1 (by decide) rfl) $$ [HW]
  · iexact HW
  iintro %x0 %hx0 HW
  iapply (wp_wait_dma m ρ K c 1 1 (n := 2) (by rw [lv_dma]; decide) (above_A c 0) (sem_at1 1) credit_slot) $$ [HO HW]
  · isplitr; · iexact HR
    isplitr; · iexact Hlev
    isplitl [HO]; · iexact HO
    iexact HW
  iintro ⟨HO, HW⟩
  simp only [wp_ret]
  imodintro
  rw [show k0_pay30 (part m ρ c c) x0 = acc m ρ c 1 from sum1 hx0]
  iapply Hk
  isplitl [HO]; · iexact HO
  isplitl [HB]; · iexact HB
  iexact HW

theorem part12 {Q} (u2 : BitVec 32) : iprop(records m ρ K ∗ levAts L lv ∗ owesE c (oweA c 0) ∗ WaitSt m ρ c 1 2)
    ⊢ iprop(((owesE c (oweA c 0) ∗ WaitSt m ρ c 1 4) -∗ Q (acc m ρ c 4))
      -∗ WP c (k0_part12 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 (acc m ρ c 1)) Q) := by
  rw [k0_part12_eq_skeleton]; unfold k0_part12_skel
  simp only [semSignalWord, semWaitWord, Prog.lift, Prog.bind_op, Prog.bind_ret, Prog.pure_eq_ret, wp_deviceId]
  iintro ⟨#HR, #Hlev, HO, HW⟩ Hk
  iapply (rv_load m ρ c 1 2 (by decide) rfl) $$ [HW]
  · iexact HW
  iintro %x1 %hx1 HW
  iapply (wp_wait_dma m ρ K c 1 2 (n := 2) (by rw [lv_dma]; decide) (above_A c 0) (sem_at1 2) credit_slot) $$ [HO HW]
  · isplitr; · iexact HR
    isplitr; · iexact Hlev
    isplitl [HO]; · iexact HO
    iexact HW
  iintro ⟨HO, HW⟩
  iapply (rv_load m ρ c 2 3 (by decide) rfl) $$ [HW]
  · iexact HW
  iintro %x2 %hx2 HW
  iapply (wp_wait_dma m ρ K c 1 3 (n := 2) (by rw [lv_dma]; decide) (above_A c 0) (sem_at1 3) credit_slot) $$ [HO HW]
  · isplitr; · iexact HR
    isplitr; · iexact Hlev
    isplitl [HO]; · iexact HO
    iexact HW
  iintro ⟨HO, HW⟩
  iapply (rv_load m ρ c 3 4 (by decide) rfl) $$ [HW]
  · iexact HW
  iintro %x3 %hx3 HW
  simp only [wp_ret]
  imodintro
  rw [show k0_pay31 (acc m ρ c 1) x1 x2 x3 = acc m ρ c 4 from sum3 hx1 hx2 hx3]
  iapply Hk
  isplitl [HO]; · iexact HO
  iexact HW

theorem part13 {Q} (u2 : BitVec 32) : iprop(records m ρ K ∗ levAts L lv ∗ owesE c (oweA c 0) ∗ WaitSt m ρ c 1 4)
    ⊢ iprop(((owesE c (oweA c 0) ∗ WaitSt m ρ c 1 6) -∗ Q (acc m ρ c 6))
      -∗ WP c (k0_part13 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 (acc m ρ c 4)) Q) := by
  rw [k0_part13_eq_skeleton]; unfold k0_part13_skel
  simp only [semSignalWord, semWaitWord, Prog.lift, Prog.bind_op, Prog.bind_ret, Prog.pure_eq_ret, wp_deviceId]
  iintro ⟨#HR, #Hlev, HO, HW⟩ Hk
  iapply (wp_wait_dma m ρ K c 1 4 (n := 2) (by rw [lv_dma]; decide) (above_A c 0) (sem_at1 4) credit_slot) $$ [HO HW]
  · isplitr; · iexact HR
    isplitr; · iexact Hlev
    isplitl [HO]; · iexact HO
    iexact HW
  iintro ⟨HO, HW⟩
  iapply (rv_load m ρ c 4 5 (by decide) rfl) $$ [HW]
  · iexact HW
  iintro %x4 %hx4 HW
  iapply (wp_wait_dma m ρ K c 1 5 (n := 2) (by rw [lv_dma]; decide) (above_A c 0) (sem_at1 5) credit_slot) $$ [HO HW]
  · isplitr; · iexact HR
    isplitr; · iexact Hlev
    isplitl [HO]; · iexact HO
    iexact HW
  iintro ⟨HO, HW⟩
  iapply (rv_load m ρ c 5 6 (by decide) rfl) $$ [HW]
  · iexact HW
  iintro %x5 %hx5 HW
  simp only [wp_ret]
  imodintro
  rw [show k0_pay32 (acc m ρ c 4) x4 x5 = acc m ρ c 6 from sum2 hx4 hx5]
  iapply Hk
  isplitl [HO]; · iexact HO
  iexact HW

end Cert.Mlp

end
-- ==== Proof.Parts4.lean ====
/-
# The all-gather

The finished rows are stored and sent to the seven others; then every copy is waited for.
-/
module

public import proofs.«01_k».proof.Proof.Parts3

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

/-- The duties of the sends of finished rows. -/
def agToks : sProp 𝕄 :=
  bigSep Finset.univ fun k : Fin 7 => iprop(dutyTok ER (dmaCell 2 c k) 0 0 ∗ dutyTok ER (dmaCell 3 (fwd c k) k) 0 0)

/-- With the rows finished, all seven sends are ready. -/
theorem ag_start : iprop(owesE c (oweA c 0) ∗ ownsTc c (chunk oM c) fullShare (red m ρ c) ∗ lentOut (F := F) c ∗ agToks (F := F) c) ⊢ AgSt m ρ c 0 := by
  have h1 (k : Fin 7) : iprop((dutyTok ER (dmaCell 2 c k) 0 0 ∗ dutyTok ER (dmaCell 3 (fwd c k) k) 0 0)
      ∗ (∃ w, ownsTc (fwd c k) (chunk oM c) fullShare w) ∗ ownsTc c (chunk oM c) (agq k) (red m ρ c)) ⊢ agKit m ρ c k := by
    unfold agKit
    iintro ⟨⟨H1, H2⟩, H3, H4⟩
    isplitl [H1]; · iexact H1
    isplitl [H2]; · iexact H2
    isplitl [H3] <;> iassumption
  have h2 : iprop(agToks (F := F) c ∗ lentOut (F := F) c ∗ bigSep Finset.univ fun k : Fin 7 => ownsTc c (chunk oM c) (agq k) (red m ρ c))
      ⊢ bigSep Finset.univ (agKit m ρ c) := by
    unfold agToks lentOut
    rw [← bigSep_sep', ← bigSep_sep']
    exact bigSep_mono fun k _ => h1 k
  unfold AgSt
  rw [from_zero, before_zero]
  iintro ⟨HO, Hr, HL, HT⟩
  isplitl [HO]; · iexact HO
  isplitl; swap; · iempintro
  iapply h2
  isplitl [HT]; · iexact HT
  isplitl [HL]; · iexact HL
  iapply (ag_deal c (red m ρ c)); iexact Hr

/-- With all seven sends issued, nothing is owed. -/
theorem ag_end : AgSt m ρ c 7 ⊢ iprop(owesE c 0 ∗ bigSep Finset.univ fun k : Fin 7 => (cred (tallyAt (dmaCell 2 c k) () N) : sProp 𝕄)) := by
  unfold AgSt
  rw [oweA_end, before_end]
  iintro ⟨HO, -, Hb⟩
  isplitl [HO] <;> iassumption

theorem part14 {Q} (u2 : BitVec 32) : iprop(records m ρ K ∗ levAts L lv ∗ owesE c (oweA c 0) ∗ WaitSt m ρ c 1 6 ∗ (∃ w, ownsTc c (chunk oM c) fullShare w) ∗ lentOut (F := F) c ∗ agToks (F := F) c)
    ⊢ iprop((∀ a b e f g, (WaitSt m ρ c 1 7 ∗ AgSt m ρ c 1) -∗ Q ⟨a, b, e, f, g⟩)
      -∗ WP c (k0_part14 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 (acc m ρ c 6)) Q) := by
  rw [k0_part14_eq_skeleton]; unfold k0_part14_skel
  simp only [semSignalWord, semWaitWord, Prog.lift, Prog.bind_op, Prog.bind_ret, Prog.pure_eq_ret, wp_deviceId]
  iintro ⟨#HR, #Hlev, HO, HW, Hown, HL, HT⟩ Hk
  iapply (wp_wait_dma m ρ K c 1 6 (n := 2) (by rw [lv_dma]; decide) (above_A c 0) (sem_at1 6) credit_slot) $$ [HO HW]
  · isplitr; · iexact HR
    isplitr; · iexact Hlev
    isplitl [HO]; · iexact HO
    iexact HW
  iintro ⟨HO, HW⟩
  iapply (rv_load m ρ c 6 7 (by decide) rfl) $$ [HW]
  · iexact HW
  iintro %x6 %hx6 HW
  icases Hown with ⟨%w, Hown⟩
  iapply (wp_load_row c oM c (k0_off17_eq c) fullShare w) $$ Hown; iintro Hown
  rw [show k0_pay33 (acc m ρ c 6) x6 = red m ρ c from sumEnd hx6]
  iapply (wp_store_row c oM c (k0_off17_eq c) w (red m ρ c)) $$ Hown; iintro Hown
  ihave HA := (ag_start m ρ c) $$ [HO Hown HL HT]
  · isplitl [HO]; · iexact HO
    isplitl [Hown]; · iexact Hown
    isplitl [HL] <;> iassumption
  iapply (ag_send m ρ K c 0 (dev16 c) (k0_off18_eq c) (sem_at2 0) (sem_at3 0)) $$ [HA]
  · isplitr; · iexact HR
    iexact HA
  iintro HA
  simp only [wp_ret]
  imodintro
  iapply Hk
  isplitl [HW]; · iexact HW
  iexact HA

theorem part15 {Q} (u2 w w' w'' w3) : iprop(records m ρ K ∗ AgSt m ρ c 1)
    ⊢ iprop((∀ a b, AgSt m ρ c 2 -∗ Q ⟨a, b⟩)
      -∗ WP c (k0_part15 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 w w' w'' w3) Q) := by
  rw [k0_part15_eq_skeleton]; unfold k0_part15_skel
  simp only [semSignalWord, semWaitWord, Prog.lift, Prog.bind_op, Prog.bind_ret, Prog.pure_eq_ret, wp_deviceId]
  iintro ⟨#HR, HA⟩ Hk
  iapply (ag_send m ρ K c 1 (dev17 c) (k0_off18_eq c) (sem_at2 1) (sem_at3 1)) $$ [HA]
  · isplitr; · iexact HR
    iexact HA
  iintro HA
  simp only [wp_ret]
  imodintro
  iapply Hk; iexact HA

theorem part16 {Q} (u2) : iprop(records m ρ K ∗ AgSt m ρ c 2)
    ⊢ iprop((∀ a b e f g, AgSt m ρ c 4 -∗ Q ⟨a, b, e, f, g⟩)
      -∗ WP c (k0_part16 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2) Q) := by
  rw [k0_part16_eq_skeleton]; unfold k0_part16_skel
  simp only [semSignalWord, semWaitWord, Prog.lift, Prog.bind_op, Prog.bind_ret, Prog.pure_eq_ret, wp_deviceId]
  iintro ⟨#HR, HA⟩ Hk
  iapply (ag_send m ρ K c 2 (dev18 c) (k0_off18_eq c) (sem_at2 2) (sem_at3 2)) $$ [HA]
  · isplitr; · iexact HR
    iexact HA
  iintro HA
  iapply (ag_send m ρ K c 3 (dev19 c) (k0_off18_eq c) (sem_at2 3) (sem_at3 3)) $$ [HA]
  · isplitr; · iexact HR
    iexact HA
  iintro HA
  simp only [wp_ret]
  imodintro
  iapply Hk; iexact HA

theorem part17 {Q} (u2 w w' w'' w3) : iprop(records m ρ K ∗ AgSt m ρ c 4)
    ⊢ iprop((∀ a b e, AgSt m ρ c 6 -∗ Q ⟨a, b, e⟩)
      -∗ WP c (k0_part17 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 w w' w'' w3) Q) := by
  rw [k0_part17_eq_skeleton]; unfold k0_part17_skel
  simp only [semSignalWord, semWaitWord, Prog.lift, Prog.bind_op, Prog.bind_ret, Prog.pure_eq_ret, wp_deviceId]
  iintro ⟨#HR, HA⟩ Hk
  iapply (ag_send m ρ K c 4 (dev20 c) (k0_off18_eq c) (sem_at2 4) (sem_at3 4)) $$ [HA]
  · isplitr; · iexact HR
    iexact HA
  iintro HA
  iapply (ag_send m ρ K c 5 (dev21 c) (k0_off18_eq c) (sem_at2 5) (sem_at3 5)) $$ [HA]
  · isplitr; · iexact HR
    iexact HA
  iintro HA
  simp only [wp_ret]
  imodintro
  iapply Hk; iexact HA

theorem part18 {Q} (u2 w) : iprop(records m ρ K ∗ levAts L lv ∗ AgSt m ρ c 6 ∗ WaitSt m ρ c 0 0)
    ⊢ iprop((∀ a, ((bigSep Finset.univ fun k : Fin 7 => (cred (tallyAt (dmaCell 2 c k) () N) : sProp 𝕄)) ∗ owesE c 0 ∗ WaitSt m ρ c 0 1) -∗ Q a)
      -∗ WP c (k0_part18 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 w) Q) := by
  rw [k0_part18_eq_skeleton]; unfold k0_part18_skel
  simp only [semSignalWord, semWaitWord, Prog.lift, Prog.bind_op, Prog.bind_ret, Prog.pure_eq_ret, wp_deviceId]
  iintro ⟨#HR, #Hlev, HA, HW⟩ Hk
  iapply (ag_send m ρ K c 6 (dev22 c) (k0_off18_eq c) (sem_at2 6) (sem_at3 6)) $$ [HA]
  · isplitr; · iexact HR
    iexact HA
  iintro HA
  ihave HA := (ag_end m ρ c) $$ [HA]
  · iexact HA
  icases HA with ⟨HO, HC⟩
  iapply (wp_wait_dma m ρ K c 0 0 (n := 3) (by rw [lv_dma]; decide) (Above.zero 3) (sem_at0 0) credit_send) $$ [HO HW]
  · isplitr; · iexact HR
    isplitr; · iexact Hlev
    isplitl [HO]; · iexact HO
    iexact HW
  iintro ⟨HO, HW⟩
  simp only [wp_ret]
  imodintro
  iapply Hk
  isplitl [HC]; · iexact HC
  isplitl [HO]; · iexact HO
  iexact HW

theorem part19 {Q} (u2) : iprop(records m ρ K ∗ levAts L lv ∗ owesE c 0 ∗ WaitSt m ρ c 0 1)
    ⊢ iprop(((owesE c 0 ∗ WaitSt m ρ c 0 5) -∗ Q ⟨⟩)
      -∗ WP c (k0_part19 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2) Q) := by
  rw [k0_part19_eq_skeleton]; unfold k0_part19_skel
  simp only [semSignalWord, semWaitWord, Prog.lift, Prog.bind_op, Prog.bind_ret, Prog.pure_eq_ret, wp_deviceId]
  iintro ⟨#HR, #Hlev, HO, HW⟩ Hk
  iapply (wp_wait_dma m ρ K c 0 1 (n := 3) (by rw [lv_dma]; decide) (Above.zero 3) (sem_at0 1) credit_send) $$ [HO HW]
  · isplitr; · iexact HR
    isplitr; · iexact Hlev
    isplitl [HO]; · iexact HO
    iexact HW
  iintro ⟨HO, HW⟩
  iapply (wp_wait_dma m ρ K c 0 2 (n := 3) (by rw [lv_dma]; decide) (Above.zero 3) (sem_at0 2) credit_send) $$ [HO HW]
  · isplitr; · iexact HR
    isplitr; · iexact Hlev
    isplitl [HO]; · iexact HO
    iexact HW
  iintro ⟨HO, HW⟩
  iapply (wp_wait_dma m ρ K c 0 3 (n := 3) (by rw [lv_dma]; decide) (Above.zero 3) (sem_at0 3) credit_send) $$ [HO HW]
  · isplitr; · iexact HR
    isplitr; · iexact Hlev
    isplitl [HO]; · iexact HO
    iexact HW
  iintro ⟨HO, HW⟩
  iapply (wp_wait_dma m ρ K c 0 4 (n := 3) (by rw [lv_dma]; decide) (Above.zero 3) (sem_at0 4) credit_send) $$ [HO HW]
  · isplitr; · iexact HR
    isplitr; · iexact Hlev
    isplitl [HO]; · iexact HO
    iexact HW
  iintro ⟨HO, HW⟩
  simp only [wp_ret]
  imodintro
  iapply Hk
  isplitl [HO]; · iexact HO
  iexact HW

theorem part20 {Q} (u2 w w' w'') : iprop(records m ρ K ∗ levAts L lv ∗ owesE c 0 ∗ WaitSt m ρ c 0 5 ∗ WaitSt m ρ c 3 0)
    ⊢ iprop(((owesE c 0 ∗ WaitSt m ρ c 0 7 ∗ WaitSt m ρ c 3 3) -∗ Q ⟨⟩)
      -∗ WP c (k0_part20 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c u2 w w' w'') Q) := by
  rw [k0_part20_eq_skeleton]; unfold k0_part20_skel
  simp only [semSignalWord, semWaitWord, Prog.lift, Prog.bind_op, Prog.bind_ret, Prog.pure_eq_ret, wp_deviceId]
  iintro ⟨#HR, #Hlev, HO, HW, HV⟩ Hk
  iapply (wp_wait_dma m ρ K c 0 5 (n := 3) (by rw [lv_dma]; decide) (Above.zero 3) (sem_at0 5) credit_send) $$ [HO HW]
  · isplitr; · iexact HR
    isplitr; · iexact Hlev
    isplitl [HO]; · iexact HO
    iexact HW
  iintro ⟨HO, HW⟩
  iapply (wp_wait_dma m ρ K c 0 6 (n := 3) (by rw [lv_dma]; decide) (Above.zero 3) (sem_at0 6) credit_send) $$ [HO HW]
  · isplitr; · iexact HR
    isplitr; · iexact Hlev
    isplitl [HO]; · iexact HO
    iexact HW
  iintro ⟨HO, HW⟩
  iapply (wp_wait_dma m ρ K c 3 0 (n := 3) (by rw [lv_dma]; decide) (Above.zero 3) (sem_at3 0) credit_out) $$ [HO HV]
  · isplitr; · iexact HR
    isplitr; · iexact Hlev
    isplitl [HO]; · iexact HO
    iexact HV
  iintro ⟨HO, HV⟩
  iapply (wp_wait_dma m ρ K c 3 1 (n := 3) (by rw [lv_dma]; decide) (Above.zero 3) (sem_at3 1) credit_out) $$ [HO HV]
  · isplitr; · iexact HR
    isplitr; · iexact Hlev
    isplitl [HO]; · iexact HO
    iexact HV
  iintro ⟨HO, HV⟩
  iapply (wp_wait_dma m ρ K c 3 2 (n := 3) (by rw [lv_dma]; decide) (Above.zero 3) (sem_at3 2) credit_out) $$ [HO HV]
  · isplitr; · iexact HR
    isplitr; · iexact Hlev
    isplitl [HO]; · iexact HO
    iexact HV
  iintro ⟨HO, HV⟩
  simp only [wp_ret]
  imodintro
  iapply Hk
  isplitl [HO]; · iexact HO
  isplitl [HW]; · iexact HW
  iexact HV

theorem part21 {Q} (w w' w'' w3) : iprop(records m ρ K ∗ levAts L lv ∗ owesE c 0 ∗ WaitSt m ρ c 3 3)
    ⊢ iprop(((owesE c 0 ∗ WaitSt m ρ c 3 7) -∗ Q ⟨⟩)
      -∗ WP c (k0_part21 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c w w' w'' w3) Q) := by
  rw [k0_part21_eq_skeleton]; unfold k0_part21_skel
  simp only [semSignalWord, semWaitWord, Prog.lift, Prog.bind_op, Prog.bind_ret, Prog.pure_eq_ret, wp_deviceId]
  iintro ⟨#HR, #Hlev, HO, HW⟩ Hk
  iapply (wp_wait_dma m ρ K c 3 3 (n := 3) (by rw [lv_dma]; decide) (Above.zero 3) (sem_at3 3) credit_out) $$ [HO HW]
  · isplitr; · iexact HR
    isplitr; · iexact Hlev
    isplitl [HO]; · iexact HO
    iexact HW
  iintro ⟨HO, HW⟩
  iapply (wp_wait_dma m ρ K c 3 4 (n := 3) (by rw [lv_dma]; decide) (Above.zero 3) (sem_at3 4) credit_out) $$ [HO HW]
  · isplitr; · iexact HR
    isplitr; · iexact Hlev
    isplitl [HO]; · iexact HO
    iexact HW
  iintro ⟨HO, HW⟩
  iapply (wp_wait_dma m ρ K c 3 5 (n := 3) (by rw [lv_dma]; decide) (Above.zero 3) (sem_at3 5) credit_out) $$ [HO HW]
  · isplitr; · iexact HR
    isplitr; · iexact Hlev
    isplitl [HO]; · iexact HO
    iexact HW
  iintro ⟨HO, HW⟩
  iapply (wp_wait_dma m ρ K c 3 6 (n := 3) (by rw [lv_dma]; decide) (Above.zero 3) (sem_at3 6) credit_out) $$ [HO HW]
  · isplitr; · iexact HR
    isplitr; · iexact Hlev
    isplitl [HO]; · iexact HO
    iexact HW
  iintro ⟨HO, HW⟩
  simp only [wp_ret]
  imodintro
  iapply Hk
  isplitl [HO]; · iexact HO
  iexact HW

theorem part22 {Q} : iprop(records m ρ K ∗ levAts L lv ∗ owesE c 0 ∗ WaitSt m ρ c 2 0)
    ⊢ iprop(((owesE c 0 ∗ WaitSt m ρ c 2 6) -∗ Q ⟨⟩)
      -∗ WP c (k0_part22 (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6 c) Q) := by
  rw [k0_part22_eq_skeleton]; unfold k0_part22_skel
  simp only [semSignalWord, semWaitWord, Prog.lift, Prog.bind_op, Prog.bind_ret, Prog.pure_eq_ret, wp_deviceId]
  iintro ⟨#HR, #Hlev, HO, HW⟩ Hk
  iapply (wp_wait_dma m ρ K c 2 0 (n := 3) (by rw [lv_dma]; decide) (Above.zero 3) (sem_at2 0) credit_out) $$ [HO HW]
  · isplitr; · iexact HR
    isplitr; · iexact Hlev
    isplitl [HO]; · iexact HO
    iexact HW
  iintro ⟨HO, HW⟩
  iapply (wp_wait_dma m ρ K c 2 1 (n := 3) (by rw [lv_dma]; decide) (Above.zero 3) (sem_at2 1) credit_out) $$ [HO HW]
  · isplitr; · iexact HR
    isplitr; · iexact Hlev
    isplitl [HO]; · iexact HO
    iexact HW
  iintro ⟨HO, HW⟩
  iapply (wp_wait_dma m ρ K c 2 2 (n := 3) (by rw [lv_dma]; decide) (Above.zero 3) (sem_at2 2) credit_out) $$ [HO HW]
  · isplitr; · iexact HR
    isplitr; · iexact Hlev
    isplitl [HO]; · iexact HO
    iexact HW
  iintro ⟨HO, HW⟩
  iapply (wp_wait_dma m ρ K c 2 3 (n := 3) (by rw [lv_dma]; decide) (Above.zero 3) (sem_at2 3) credit_out) $$ [HO HW]
  · isplitr; · iexact HR
    isplitr; · iexact Hlev
    isplitl [HO]; · iexact HO
    iexact HW
  iintro ⟨HO, HW⟩
  iapply (wp_wait_dma m ρ K c 2 4 (n := 3) (by rw [lv_dma]; decide) (Above.zero 3) (sem_at2 4) credit_out) $$ [HO HW]
  · isplitr; · iexact HR
    isplitr; · iexact Hlev
    isplitl [HO]; · iexact HO
    iexact HW
  iintro ⟨HO, HW⟩
  iapply (wp_wait_dma m ρ K c 2 5 (n := 3) (by rw [lv_dma]; decide) (Above.zero 3) (sem_at2 5) credit_out) $$ [HO HW]
  · isplitr; · iexact HR
    isplitr; · iexact Hlev
    isplitl [HO]; · iexact HO
    iexact HW
  iintro ⟨HO, HW⟩
  simp only [wp_ret]
  imodintro
  iapply Hk
  isplitl [HO]; · iexact HO
  iexact HW

end Cert.Mlp

end
-- ==== Proof.Whole.lean ====
/-
# The whole body

The pieces of the body one after the other.
-/
module

public import proofs.«01_k».proof.Proof.Parts2
public import proofs.«01_k».proof.Proof.Parts4

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

/-- Seven semaphores about to be waited on. -/
theorem wait_intro (a : Fin 4) : iprop((bigSep Finset.univ fun k : Fin 7 => (cred (tallyAt (dmaCell a c k) () N) : sProp 𝕄))
      ∗ bigSep Finset.univ fun k : Fin 7 => (atPos ER (dmaCell a c k) 0 ∅ 0 : sProp 𝕄)) ⊢ WaitSt m ρ c a 0 := by
  unfold WaitSt
  rw [from_zero, before_zero, bigSep_sep']
  iintro ⟨H1, H2⟩
  isplitl [H1 H2]
  · isplitl [H1] <;> iassumption
  iempintro

/-- and once they have been. -/
theorem wait_end (a : Fin 4) : WaitSt m ρ c a 7 ⊢ iprop((bigSep Finset.univ fun k : Fin 7 => (atPos ER (dmaCell a c k) 1 ∅ 0 : sProp 𝕄))
      ∗ bigSep Finset.univ fun k : Fin 7 => pay m ρ c a k) := by
  unfold WaitSt
  rw [from_end, before_end, bigSep_sep']
  iintro ⟨-, H⟩
  iexact H

/-- All eight blocks computed and sent. -/
theorem rs_done : iprop(before_ 8 (done m ρ c) ∗ bigSep Finset.univ fun k : Fin 7 => (atPos ER (dmaCell 0 c k) 0 ∅ 0 : sProp 𝕄))
    ⊢ iprop((bigSep Finset.univ (hasP m ρ c)) ∗ anyB c c ∗ WaitSt m ρ c 0 0) := by
  have hs : (bigSep Finset.univ fun j => sent (F := F) c j)
      = iprop(anyB c c ∗ bigSep Finset.univ fun k : Fin 7 => (cred (tallyAt (dmaCell 0 c k) () N) : sProp 𝕄)) := by
    rw [show (bigSep Finset.univ fun j => sent (F := F) c j) = iprop(sent c c ∗ bigSep (Finset.univ.erase c) fun j => sent (F := F) c j) from
      bigSep_erase (Finset.mem_univ c), univ_erase, bigSep_map]
    congr 1
    · unfold sent; rw [if_pos rfl]
    · refine bigSep_congr fun k _ => ?_
      show sent c (fwd c k) = _
      unfold sent; rw [if_neg (fwd_ne c k), slot_fwd]
  have hd : before_ 8 (done m ρ c) = iprop((bigSep Finset.univ (hasP m ρ c)) ∗ bigSep Finset.univ fun j => sent (F := F) c j) := by
    refine (before_end (done m ρ c)).trans ?_
    unfold done
    exact bigSep_sep' _ _ _
  rw [hd, hs]
  iintro ⟨⟨HP, HB, HC⟩, HA⟩
  isplitl [HP]; · iexact HP
  isplitl [HB]; · iexact HB
  iapply (wait_intro m ρ c 0)
  isplitl [HC] <;> iassumption

/-- What the body starts from, besides the standing facts. -/
def before : sProp 𝕄 :=
  iprop(SigSt c 0 ∗ cred (tallyAt (barCell c) () 7) ∗ atPos ER (barCell c) 0 ∅ 0 ∗ (bigSep Finset.univ fun j => anyP (F := F) c j)
    ∗ (bigSep Finset.univ fun j => anyB (F := F) c j) ∗ rsToks c ∗ agToks c ∗ hX m ρ c ∗ hW1 m ρ c ∗ hW2 m ρ c
    ∗ (∃ w, ownsTc c (chunk oM c) fullShare w) ∗ WaitSt m ρ c 1 0 ∗ WaitSt m ρ c 3 0
    ∗ (bigSep Finset.univ fun k : Fin 7 => (atPos ER (dmaCell 0 c k) 0 ∅ 0 : sProp 𝕄))
    ∗ bigSep Finset.univ fun k : Fin 7 => (atPos ER (dmaCell 2 c k) 0 ∅ 0 : sProp 𝕄))
/-- What it ends with. -/
def after : sProp 𝕄 :=
  iprop(owesE c 0 ∗ atPos ER (barCell c) 1 ∅ 0 ∗ bigSep Finset.univ (hasP m ρ c) ∗ anyB c c ∗ hX m ρ c ∗ hW1 m ρ c ∗ hW2 m ρ c
    ∗ WaitSt m ρ c 0 7 ∗ WaitSt m ρ c 1 7 ∗ WaitSt m ρ c 2 7 ∗ WaitSt m ρ c 3 7)

theorem body_run {Q : PUnit → sProp 𝕄} : iprop(records m ρ K ∗ levAts L lv ∗ before m ρ c)
    ⊢ iprop((after m ρ c -∗ Q ⟨⟩)
      -∗ WP c (cc0_body (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6) Q) := by
  rw [cc0_body_eq_skeleton]; unfold cc0_body_skel before after
  iintro ⟨#HR, #Hlev, HS, Hcb, Hab, HP, HB, Hrt, Hat, HX, HW1, HW2, Hown, Hw1, Hw3, Ha0, Ha2⟩ Hk
  simp only [wp_bind]
  iapply (part1 m ρ K c) $$ [HS]
  · isplitr; · iexact HR
    iexact HS
  iintro %u2 %v30 %v31
  iintro HS
  dsimp only
  iapply (part2 m ρ K c u2 v30 _ v31) $$ [HS]
  · isplitr; · iexact HR
    iexact HS
  iintro %a %b %e
  iintro HS
  dsimp only
  iapply (part3 m ρ K c u2 a b e) $$ [HS HW1]
  · isplitr; · iexact HR
    isplitl [HS]; · iexact HS
    iexact HW1
  iintro ⟨HS, HW1⟩
  iapply (part4 m ρ K c u2) $$ [HS Hcb Hab HP HB Hrt HX HW2]
  · isplitr; · iexact HR
    isplitr; · iexact Hlev
    isplitl [HS]; · iexact HS
    isplitl [Hcb]; · iexact Hcb
    isplitl [Hab]; · iexact Hab
    isplitl [HP]; · iexact HP
    isplitl [HB]; · iexact HB
    isplitl [Hrt]; · iexact Hrt
    isplitl [HX]; · iexact HX
    iexact HW2
  iintro ⟨HS, HL, Hab, HX, HW2⟩
  iapply (part5 m ρ K c u2) $$ [HS HX]
  · isplitr; · iexact HR
    isplitl [HS]; · iexact HS
    iexact HX
  iintro ⟨HS, HX⟩
  dsimp only
  iapply (part6 m ρ K c u2) $$ [HS HX]
  · isplitr; · iexact HR
    isplitl [HS]; · iexact HS
    iexact HX
  iintro %w6
  iintro ⟨HS, HX⟩
  dsimp only
  iapply (part7 m ρ K c u2 w6) $$ [HS HX]
  · isplitr; · iexact HR
    isplitl [HS]; · iexact HS
    iexact HX
  iintro %w7
  iintro ⟨HS, HX⟩
  dsimp only
  iapply (part8 m ρ K c u2 w7) $$ [HS HX]
  · isplitr; · iexact HR
    isplitl [HS]; · iexact HS
    iexact HX
  iintro %w8
  iintro ⟨HS, HX⟩
  iapply (part9 m ρ K c u2 w8) $$ [HS HX]
  · isplitr; · iexact HR
    isplitl [HS]; · iexact HS
    iexact HX
  iintro %a9 %b9 %e9
  iintro ⟨HS, HX⟩
  dsimp only
  iapply (part10 m ρ K c u2 a9 b9 e9) $$ [HS HX]
  · isplitr; · iexact HR
    isplitl [HS]; · iexact HS
    iexact HX
  iintro %a10 %b10 %e10
  iintro ⟨HS, HX⟩
  dsimp only
  iapply (part11 m ρ K c u2 a10 b10 e10) $$ [HS Hw1]
  · isplitr; · iexact HR
    isplitr; · iexact Hlev
    isplitl [HS]; · iexact HS
    iexact Hw1
  iintro ⟨HO, HD, Hw1⟩
  iapply (part12 m ρ K c u2) $$ [HO Hw1]
  · isplitr; · iexact HR
    isplitr; · iexact Hlev
    isplitl [HO]; · iexact HO
    iexact Hw1
  iintro ⟨HO, Hw1⟩
  iapply (part13 m ρ K c u2) $$ [HO Hw1]
  · isplitr; · iexact HR
    isplitr; · iexact Hlev
    isplitl [HO]; · iexact HO
    iexact Hw1
  iintro ⟨HO, Hw1⟩
  iapply (part14 m ρ K c u2) $$ [HO Hw1 Hown HL Hat]
  · isplitr; · iexact HR
    isplitr; · iexact Hlev
    isplitl [HO]; · iexact HO
    isplitl [Hw1]; · iexact Hw1
    isplitl [Hown]; · iexact Hown
    isplitl [HL]; · iexact HL
    iexact Hat
  iintro %a14 %b14 %e14 %f14 %g14
  iintro ⟨Hw1, HA⟩
  dsimp only
  iapply (part15 m ρ K c u2 b14 e14 f14 g14) $$ [HA]
  · isplitr; · iexact HR
    iexact HA
  iintro %a15 %b15
  iintro HA
  dsimp only
  iapply (part16 m ρ K c u2) $$ [HA]
  · isplitr; · iexact HR
    iexact HA
  iintro %a16 %b16 %e16 %f16 %g16
  iintro HA
  dsimp only
  iapply (part17 m ρ K c u2 b16 e16 f16 g16) $$ [HA]
  · isplitr; · iexact HR
    iexact HA
  iintro %a17 %b17 %e17
  iintro HA
  dsimp only
  ihave HD := (rs_done m ρ c) $$ [HD Ha0]
  · isplitl [HD] <;> iassumption
  icases HD with ⟨HP, HB, Hw0⟩
  iapply (part18 m ρ K c u2 e17) $$ [HA Hw0]
  · isplitr; · iexact HR
    isplitr; · iexact Hlev
    isplitl [HA]; · iexact HA
    iexact Hw0
  iintro %w18
  iintro ⟨Hcr, HO, Hw0⟩
  ihave Hw2 := (wait_intro m ρ c 2) $$ [Hcr Ha2]
  · isplitl [Hcr] <;> iassumption
  iapply (part19 m ρ K c u2) $$ [HO Hw0]
  · isplitr; · iexact HR
    isplitr; · iexact Hlev
    isplitl [HO]; · iexact HO
    iexact Hw0
  iintro ⟨HO, Hw0⟩
  iapply (part20 m ρ K c u2 a14 a15 b15) $$ [HO Hw0 Hw3]
  · isplitr; · iexact HR
    isplitr; · iexact Hlev
    isplitl [HO]; · iexact HO
    isplitl [Hw0]; · iexact Hw0
    iexact Hw3
  iintro ⟨HO, Hw0, Hw3⟩
  iapply (part21 m ρ K c a16 a17 b17 w18) $$ [HO Hw3]
  · isplitr; · iexact HR
    isplitr; · iexact Hlev
    isplitl [HO]; · iexact HO
    iexact Hw3
  iintro ⟨HO, Hw3⟩
  iapply (part22 m ρ K c) $$ [HO Hw2]
  · isplitr; · iexact HR
    isplitr; · iexact Hlev
    isplitl [HO]; · iexact HO
    iexact Hw2
  iintro ⟨HO, Hw2⟩
  simp only [Prog.lift, Prog.bind_op, Prog.bind_ret, Prog.pure_eq_ret]
  iapply (wp_wait_dma m ρ K c 2 6 (n := 3) (by rw [lv_dma]; decide) (Above.zero 3) (sem_at2 6) credit_out) $$ [HO Hw2]
  · isplitr; · iexact HR
    isplitr; · iexact Hlev
    isplitl [HO]; · iexact HO
    iexact Hw2
  iintro ⟨HO, Hw2⟩
  simp only [wp_ret]
  imodintro
  imodintro
  iapply Hk
  isplitl [HO]; · iexact HO
  isplitl [Hab]; · iexact Hab
  isplitl [HP]; · iexact HP
  isplitl [HB]; · iexact HB
  isplitl [HX]; · iexact HX
  isplitl [HW1]; · iexact HW1
  isplitl [HW2]; · iexact HW2
  isplitl [Hw0]; · iexact Hw0
  isplitl [Hw1]; · iexact Hw1
  isplitl [Hw2]; · iexact Hw2
  iexact Hw3

end Cert.Mlp

end
-- ==== Proof.Blocks.lean ====
/-
# Buffers and their blocks

A 768-row buffer is its eight blocks of 96 rows, and the receive buffer its seven slots.
-/
module

public import proofs.«01_k».proof.Proof.Steps
public import Idealize.ShloMosaic.Lib.Ring

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

theorem rows_disj (j j' : Dev nD) (h : j ≠ j') : Disjoint (rowR j).set (rowR j').set :=
  Ring.lead_disjoint (s := S768x768) 0 96 (fun j : Fin 8 => ![96 * j.val, 0]) S96x768.size rows_inb (fun _ => rfl) rfl j j' h
theorem rows_cover : (Finset.univ : Finset (Dev nD)).biUnion (fun j => (rowR j).set) = Finset.univ :=
  Ring.lead_cover (s := S768x768) 0 96 (fun j : Fin 8 => ![96 * j.val, 0]) S96x768.size rows_inb (fun _ => rfl)
    (fun j a ha => by fin_cases a; exacts [absurd rfl ha, rfl]) rfl (fun a ha => by fin_cases a; exacts [absurd rfl ha, rfl]) (by decide)
theorem slots_disj (k k' : Fin 7) (h : k ≠ k') : Disjoint (slotR k).set (slotR k').set :=
  Ring.lead_disjoint (s := S7x96x768) 0 1 (fun k : Fin 7 => ![k.val, 0, 0]) S1x96x768.size slot_inb (fun k => (Nat.one_mul k.val).symm) rfl k k' h
theorem slots_cover : (Finset.univ : Finset (Fin 7)).biUnion (fun k => (slotR k).set) = Finset.univ :=
  Ring.lead_cover (s := S7x96x768) 0 1 (fun k : Fin 7 => ![k.val, 0, 0]) S1x96x768.size slot_inb (fun k => (Nat.one_mul k.val).symm)
    (fun k a ha => by fin_cases a; exacts [absurd rfl ha, rfl, rfl]) rfl (fun a ha => by fin_cases a; exacts [absurd rfl ha, rfl, rfl]) (by decide)

/-- Blocks of disjoint rectangles put together: one array with those blocks. -/
theorem glue_ex {sh : Shape} {T : Type} {β : Type} [Nonempty β] (r : T → Rect sh) (hd : ∀ t t', t ≠ t' → Disjoint (r t).set (r t').set)
    (w : (t : T) → (r t).shape.Idx → β) : ∃ X : sh.Idx → β, ∀ t i, X ((r t).emb i) = w t i := by
  classical
  refine ⟨fun y => if h : ∃ p : (t : T) × (r t).shape.Idx, (r p.1).emb p.2 = y then w h.choose.1 h.choose.2 else Classical.arbitrary β, fun t i => ?_⟩
  have h : ∃ p : (t : T) × (r t).shape.Idx, (r p.1).emb p.2 = (r t).emb i := ⟨⟨t, i⟩, rfl⟩
  refine (dif_pos h).trans ?_
  have hp := h.choose_spec
  generalize h.choose = p at hp
  obtain ⟨t', i'⟩ := p
  have ht : t' = t := by
    by_contra hn
    refine Finset.disjoint_left.mp (hd t' t hn) ((r t').map_emb_univ ▸ Finset.mem_map_of_mem _ (Finset.mem_univ i')) ?_
    rw [hp]
    exact (r t).map_emb_univ ▸ Finset.mem_map_of_mem _ (Finset.mem_univ i)
  subst ht
  have hi : i' = i := (r t').emb.injective hp
  subst hi
  rfl

/-- The 768-row array whose block `j` is `w j`. -/
def glue {β : Type} [Nonempty β] (w : Dev nD → S96x768.Idx → β) : S768x768.Idx → β := (glue_ex rowR rows_disj w).choose
theorem glue_at {β : Type} [Nonempty β] (w : Dev nD → S96x768.Idx → β) (j : Dev nD) (i : S96x768.Idx) : glue w ((rowR j).emb i) = w j i :=
  (glue_ex rowR rows_disj w).choose_spec j i

section Rows
variable {e : EltTy} (M : Memref sig .tc .vmem S768x768 e)

theorem rows_split (X : S768x768.Idx → Elt F e) :
    (ownsTc c M fullShare X : sProp 𝕄) ⊢ bigSep Finset.univ fun j : Dev nD => iprop(∃ w, ownsTc c (chunk M j) fullShare w) := by
  have h (j : Dev nD) : owns (c : Thread nD τ) (M.slice (rowR j) (fun _ => rfl)) fullShare (fun i => X ((rowR j).emb i))
      ⊢ (iprop(∃ w, ownsTc c (chunk M j) fullShare w) : sProp 𝕄) := by
    iintro H; iexists _; iexact H
  exact (owns_rects (c : Thread nD τ) M fullShare rowR (fun _ _ => rfl) rows_disj rows_cover X).trans (bigSep_mono fun j _ => h j)

theorem rows_glue (w : Dev nD → S96x768.Idx → Elt F e) :
    (bigSep Finset.univ fun j : Dev nD => ownsTc c (chunk M j) fullShare (w j) : sProp 𝕄) ⊢ ownsTc c M fullShare (glue w) := by
  refine BI.Entails.trans (Entails.of_eq (bigSep_congr fun j _ => ?_)) (owns_of_rects (c : Thread nD τ) M fullShare rowR (fun _ _ => rfl) rows_disj rows_cover (glue w))
  exact congrArg (fun w => (ownsTc c (chunk M j) fullShare w : sProp 𝕄)) (funext fun i => (glue_at w j i).symm)

theorem rows_join :
    (bigSep Finset.univ fun j : Dev nD => iprop(∃ w, ownsTc c (chunk M j) fullShare w) : sProp 𝕄) ⊢ iprop(∃ X, ownsTc c M fullShare X) := by
  have h := BI.bigSep_exists_pi (Finset.univ : Finset (Dev nD)) (fun (j : Dev nD) (w : S96x768.Idx → Elt F e) => (ownsTc c (chunk M j) fullShare w : sProp 𝕄))
  iintro H
  ihave H := h $$ H
  icases H with ⟨%w, H⟩
  iexists glue w
  iapply (rows_glue c M w); iexact H
end Rows

theorem slot_view (k : Fin 7) (w : S96x768.Idx → Elt F .bf16) :
    (ownsTc c (slotM k) fullShare w : sProp 𝕄) ⊢ iprop(∃ X, ownsTc c (rM.slice (slotR k) (fun _ => rfl)) fullShare X) := by
  unfold ownsTc owns
  iintro ⟨%f, -, H⟩
  iexists _
  iexists f
  isplitr; · ipureintro; rfl
  rw [show (slotM k).view.set = (rM.slice (slotR k) (fun _ => rfl) : Memref sig .tc .vmem _ .bf16).view.set from View.set_reshape _ _]
  iexact H

theorem view_slot (k : Fin 7) (X : S1x96x768.Idx → Elt F .bf16) :
    (ownsTc c (rM.slice (slotR k) (fun _ => rfl)) fullShare X : sProp 𝕄) ⊢ iprop(∃ w, ownsTc c (slotM k) fullShare w) := by
  unfold ownsTc owns
  iintro ⟨%f, -, H⟩
  iexists _
  iexists f
  isplitr; · ipureintro; rfl
  rw [show (slotM k).view.set = (rM.slice (slotR k) (fun _ => rfl) : Memref sig .tc .vmem _ .bf16).view.set from View.set_reshape _ _]
  iexact H

theorem slots_split (X : S7x96x768.Idx → Elt F .bf16) :
    (ownsTc c rM fullShare X : sProp 𝕄) ⊢ bigSep Finset.univ fun k : Fin 7 => iprop(∃ w, ownsTc c (slotM k) fullShare w) :=
  (owns_rects (c : Thread nD τ) rM fullShare slotR (fun _ _ => rfl) slots_disj slots_cover X).trans (bigSep_mono fun k _ => view_slot c k _)

theorem slots_join :
    (bigSep Finset.univ fun k : Fin 7 => iprop(∃ w, ownsTc c (slotM k) fullShare w) : sProp 𝕄) ⊢ iprop(∃ X, ownsTc c rM fullShare X) := by
  have h0 (k : Fin 7) : iprop(∃ w, ownsTc c (slotM k) fullShare w) ⊢ (iprop(∃ X, ownsTc c (rM.slice (slotR k) (fun _ => rfl)) fullShare X) : sProp 𝕄) := by
    iintro ⟨%w, H⟩; iapply (slot_view c k w); iexact H
  have : Nonempty (Elt F .bf16) := Elt.nonempty F .bf16
  have h := BI.bigSep_exists_pi (Finset.univ : Finset (Fin 7))
    (fun (k : Fin 7) (X : S1x96x768.Idx → Elt F .bf16) => (ownsTc c (rM.slice (slotR k) (fun _ => rfl)) fullShare X : sProp 𝕄))
  refine (bigSep_mono fun k _ => h0 k).trans (h.trans ?_)
  iintro ⟨%w, H⟩
  obtain ⟨X, hX⟩ := glue_ex slotR slots_disj w
  iexists X
  iapply (owns_of_rects (c : Thread nD τ) rM fullShare slotR (fun _ _ => rfl) slots_disj slots_cover X)
  have he : (bigSep Finset.univ fun k : Fin 7 => ownsTc c (rM.slice (slotR k) (fun _ => rfl)) fullShare (w k) : sProp 𝕄)
      = bigSep Finset.univ fun k : Fin 7 => owns (c : Thread nD τ) (rM.slice (slotR k) (fun _ => rfl)) fullShare (fun j => X ((slotR k).emb j)) :=
    bigSep_congr fun k _ => congrArg (fun w => (ownsTc c (rM.slice (slotR k) (fun _ => rfl)) fullShare w : sProp 𝕄)) (funext fun i => (hX k i).symm)
  ihave H := (Entails.of_eq he) $$ H
  iexact H

end Cert.Mlp

end
-- ==== Proof.Ends.lean ====
/-
# The two ends of the body

From whole buffers, positions and duties to the state the body starts in, and back from the state it ends in to whole
buffers with all semaphores' schedules finished.
-/
module

public import proofs.«01_k».proof.Proof.Whole
public import proofs.«01_k».proof.Proof.Blocks

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

omit [FloatOps F] in
/-- All devices: this one, and the seven others counted forwards, or backwards. -/
theorem all_fwd (Φ : Dev nD → sProp 𝕄) : bigSep Finset.univ Φ = iprop(Φ c ∗ bigSep Finset.univ fun k : Fin 7 => Φ (fwd c k)) := by
  rw [show bigSep Finset.univ Φ = iprop(Φ c ∗ bigSep (Finset.univ.erase c) Φ) from bigSep_erase (Finset.mem_univ c), univ_erase, bigSep_map]
  rfl
omit [FloatOps F] in
theorem all_bwd (Φ : Dev nD → sProp 𝕄) : bigSep Finset.univ Φ = iprop(Φ c ∗ bigSep Finset.univ fun k : Fin 7 => Φ (bwd c k)) := by
  rw [all_fwd c Φ, bigSep_univ_equiv revE (fun k : Fin 7 => Φ (fwd c k))]
  exact congrArg (BI.sep (Φ c)) (bigSep_congr fun k _ => congrArg Φ (fwd_rev c k))

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The state of a device's 29 schedules in round `r`. -/
def posAll (r : ℕ) : sProp 𝕄 := bigSep Finset.univ fun x : Cx => (atPos ER (kcell (c, x)) r ∅ 0 : sProp 𝕄)
abbrev pos (r : ℕ) (a : Fin 4) : sProp 𝕄 := bigSep Finset.univ fun k : Fin 7 => (atPos ER (dmaCell a c k) r ∅ 0 : sProp 𝕄)

omit [FloatOps F] in
theorem posAll_eq (r : ℕ) : posAll (F := F) c r = iprop(atPos ER (barCell c) r ∅ 0 ∗ pos c r 0 ∗ pos c r 1 ∗ pos c r 2 ∗ pos c r 3) := by
  unfold posAll
  rw [bigSep_univ_sum, bigSep_univ_prod, four, show (bigSep Finset.univ fun a : Unit => (atPos ER (kcell (c, .inl a)) r ∅ 0 : sProp 𝕄)) = atPos ER (barCell c) r ∅ 0 from bigSep_singleton]
  rfl

/-- The duties of the signals. -/
def barToks : sProp 𝕄 := bigSep Finset.univ fun k : Fin 7 => (dutyTok ER (barCell (fwd c k)) 0 (rev k) : sProp 𝕄)
/-- The credits of the waits for others. -/
def creds : sProp 𝕄 :=
  iprop(cred (tallyAt (barCell c) () 7) ∗ (bigSep Finset.univ fun k : Fin 7 => (cred (tallyAt (dmaCell 1 c k) () N) : sProp 𝕄))
    ∗ bigSep Finset.univ fun k : Fin 7 => (cred (tallyAt (dmaCell 3 c k) () N) : sProp 𝕄))

theorem sig_start : iprop(owesE c (O₀ c) ∗ barToks (F := F) c ∗ (∃ X, ownsTc c rM fullShare X) ∗ ∃ X, ownsTc c oM fullShare X)
    ⊢ iprop(SigSt c 0 ∗ ∃ w, ownsTc c (chunk oM c) fullShare w) := by
  have hs : (bigSep Finset.univ fun k : Fin 7 => (iprop(∃ w, ownsTc c (slotM k) fullShare w) : sProp 𝕄))
      = bigSep Finset.univ fun k : Fin 7 => iprop(∃ w, ownsTc c (slotM (rev k)) fullShare w) :=
    bigSep_univ_equiv revE _
  have hi : bigSep Finset.univ (sigItem (F := F) c) = iprop(barToks c ∗ (bigSep Finset.univ fun k : Fin 7 => iprop(∃ w, ownsTc c (slotM (rev k)) fullShare w))
      ∗ bigSep Finset.univ fun k : Fin 7 => iprop(∃ w, ownsTc c (chunk oM (fwd c k)) fullShare w)) := by
    unfold sigItem barToks
    rw [bigSep_sep', bigSep_sep']
  unfold SigSt
  rw [from_zero, hi]
  iintro ⟨HO, HT, ⟨%X, HR⟩, ⟨%Y, HM⟩⟩
  ihave HR := (slots_split c X) $$ HR
  ihave HR := (Entails.of_eq hs) $$ HR
  ihave HM := (rows_split c oM Y) $$ HM
  ihave HM := (Entails.of_eq (all_fwd c fun j => (iprop(∃ w, ownsTc c (chunk oM j) fullShare w) : sProp 𝕄))) $$ HM
  icases HM with ⟨Hown, HM⟩
  isplitr [Hown]
  · isplitl [HO]; · iexact HO
    isplitl [HT]; · iexact HT
    isplitl [HR]; · iexact HR
    iexact HM
  iexact Hown

theorem start : iprop(owesE c (O₀ c) ∗ (barToks (F := F) c ∗ rsToks c ∗ agToks c) ∗ posAll c 0 ∗ creds c ∗ hX m ρ c ∗ hW1 m ρ c ∗ hW2 m ρ c
      ∗ (∃ X, ownsTc c oM fullShare X) ∗ (∃ X, ownsTc c pM fullShare X) ∗ (∃ X, ownsTc c bM fullShare X) ∗ ∃ X, ownsTc c rM fullShare X)
    ⊢ before m ρ c := by
  unfold before creds
  rw [posAll_eq]
  iintro ⟨HO, ⟨HT0, HT1, HT2⟩, ⟨Hb, H0, H1, H2, H3⟩, ⟨Cb, C1, C3⟩, HX, HW1, HW2, HM, ⟨%P, HP⟩, ⟨%B, HB⟩, HR⟩
  ihave HS := (sig_start c) $$ [HO HT0 HR HM]
  · isplitl [HO]; · iexact HO
    isplitl [HT0]; · iexact HT0
    isplitl [HR]; · iexact HR
    iexact HM
  icases HS with ⟨HS, Hown⟩
  ihave HP := (rows_split c pM P) $$ HP
  ihave HB := (rows_split c bM B) $$ HB
  isplitl [HS]; · iexact HS
  isplitl [Cb]; · iexact Cb
  isplitl [Hb]; · iexact Hb
  isplitl [HP]; · iexact HP
  isplitl [HB]; · iexact HB
  isplitl [HT1]; · iexact HT1
  isplitl [HT2]; · iexact HT2
  isplitl [HX]; · iexact HX
  isplitl [HW1]; · iexact HW1
  isplitl [HW2]; · iexact HW2
  isplitl [Hown]; · iexact Hown
  isplitl [C1 H1]
  · iapply (wait_intro m ρ c 1)
    isplitl [C1]; · iexact C1
    iexact H1
  isplitl [C3 H3]
  · iapply (wait_intro m ρ c 3)
    isplitl [C3]; · iexact C3
    iexact H3
  isplitl [H0]; · iexact H0
  iexact H2

/-- The whole result: block `j` is device `j`'s finished rows. -/
def outW : S768x768.Idx → Elt F .bf16 := haveI := Elt.nonempty F .bf16; glue (red m ρ)
theorem outW_at (j : Dev nD) (i : S96x768.Idx) : outW m ρ ((rowR j).emb i) = red m ρ j i :=
  haveI := Elt.nonempty F .bf16; glue_at _ j i

theorem finish : after m ρ c ⊢ iprop(owesE c 0 ∗ posAll c 1 ∗ hX m ρ c ∗ hW1 m ρ c ∗ hW2 m ρ c ∗ ownsTc c oM fullShare (outW m ρ)
      ∗ (∃ X, ownsTc c pM fullShare X) ∗ (∃ X, ownsTc c bM fullShare X) ∗ ∃ X, ownsTc c rM fullShare X) := by
  have hp (j : Dev nD) : hasP m ρ c j ⊢ (iprop(∃ w, ownsTc c (chunk pM j) fullShare w) : sProp 𝕄) := by iintro H; iexists _; iexact H
  have hr (k : Fin 7) : pay m ρ c 1 k ⊢ (iprop(∃ w, ownsTc c (slotM k) fullShare w) : sProp 𝕄) := by
    show (ownsTc c (slotM k) fullShare (partB m ρ (bwd c k) c) : sProp 𝕄) ⊢ _
    iintro H; iexists _; iexact H
  have h0 : (bigSep Finset.univ fun k : Fin 7 => pay m ρ c 0 k) = bigSep Finset.univ fun k : Fin 7 => iprop(∃ w, ownsTc c (chunk bM (fwd c k)) fullShare w) := rfl
  have h2 : (bigSep Finset.univ fun k : Fin 7 => pay m ρ c 2 k) = bigSep Finset.univ fun k : Fin 7 => ownsTc c (chunk oM c) (agq k) (red m ρ c) := rfl
  have h3 : (bigSep Finset.univ fun k : Fin 7 => pay m ρ c 3 k) = bigSep Finset.univ fun k : Fin 7 => ownsTc c (chunk oM (bwd c k)) fullShare (red m ρ (bwd c k)) := rfl
  unfold after
  rw [posAll_eq]
  iintro ⟨HO, Hb, HP, HB, HX, HW1, HW2, H0, H1, H2, H3⟩
  ihave H0 := (wait_end m ρ c 0) $$ H0
  ihave H1 := (wait_end m ρ c 1) $$ H1
  ihave H2 := (wait_end m ρ c 2) $$ H2
  ihave H3 := (wait_end m ρ c 3) $$ H3
  icases H0 with ⟨A0, H0⟩
  icases H1 with ⟨A1, H1⟩
  icases H2 with ⟨A2, H2⟩
  icases H3 with ⟨A3, H3⟩
  ihave H0 := (Entails.of_eq h0) $$ H0
  ihave H2 := (Entails.of_eq h2) $$ H2
  ihave H3 := (Entails.of_eq h3) $$ H3
  isplitl [HO]; · iexact HO
  isplitl [Hb A0 A1 A2 A3]
  · isplitl [Hb]; · iexact Hb
    isplitl [A0]; · iexact A0
    isplitl [A1]; · iexact A1
    isplitl [A2]; · iexact A2
    iexact A3
  isplitl [HX]; · iexact HX
  isplitl [HW1]; · iexact HW1
  isplitl [HW2]; · iexact HW2
  isplitl [H2 H3]
  · ihave H2 := (ag_join c (red m ρ c)) $$ H2
    iapply (rows_glue c oM (red m ρ))
    iapply (Entails.of_eq (all_bwd c fun j => (ownsTc c (chunk oM j) fullShare (red m ρ j) : sProp 𝕄)).symm)
    isplitl [H2]; · iexact H2
    iexact H3
  isplitl [HP]
  · iapply (rows_join c pM)
    iapply (show bigSep Finset.univ (hasP m ρ c) ⊢ _ from bigSep_mono fun j _ => hp j)
    iexact HP
  isplitl [HB H0]
  · iapply (rows_join c bM)
    iapply (Entails.of_eq (all_fwd c fun j => (iprop(∃ w, ownsTc c (chunk bM j) fullShare w) : sProp 𝕄)).symm)
    isplitl [HB]; · iexact HB
    iexact H0
  iapply (slots_join c)
  iapply (show (bigSep Finset.univ fun k : Fin 7 => pay m ρ c 1 k) ⊢ _ from bigSep_mono fun k _ => hr k)
  iexact H1

end Cert.Mlp

end
-- ==== Proof.Body.lean ====
/-
# The kernel call's proof data

What each window's buffer holds before and after the body, and the body as the call asks for it.
-/
module

public import proofs.«01_k».proof.Proof.Ends
public import proofs.«01_k».proof.Proof.Gen.KernelIdeal.Points

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

/-- What device `c` starts with besides its memory. -/
def ghost : sProp 𝕄 := iprop(records m ρ K ∗ (barToks (F := F) c ∗ rsToks c ∗ agToks c) ∗ posAll c 0)
def starts : sProp 𝕄 := iprop((∃ K, ghost m ρ K c) ∗ creds c ∗ levAts L lv)
/-- The three scratch buffers. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- Its 29 semaphores at zero. -/
def zeros : sProp 𝕄 := bigSep Finset.univ fun x : Cx => (semVal (kcell (c, x)) 0 : sProp 𝕄)

def Φ₀ : sProp 𝕄 := iprop(starts m ρ c ∗ scratch (F := F) c)
def Φ₁ : sProp 𝕄 := iprop(scratch (F := F) c ∗ zeros c)

theorem scratch_eq : (scratch c : sProp 𝕄)
    = iprop((∃ X, ownsTc c pM fullShare X) ∗ (∃ X, ownsTc c bM fullShare X) ∗ ∃ X, ownsTc c rM fullShare X) := by
  unfold scratch
  have h0 (f : Buf (Elt F) ((c : Thread nD τ).loc cc0_scratch0)) : (((c : Thread nD τ).loc cc0_scratch0) ↦{fullShare} f : sProp 𝕄) = ownsTc c pM fullShare f := (owns_whole _ _ _ _).symm
  have h1 (f : Buf (Elt F) ((c : Thread nD τ).loc cc0_scratch1)) : (((c : Thread nD τ).loc cc0_scratch1) ↦{fullShare} f : sProp 𝕄) = ownsTc c bM fullShare f := (owns_whole _ _ _ _).symm
  have h2 (f : Buf (Elt F) ((c : Thread nD τ).loc cc0_scratch2)) : (((c : Thread nD τ).loc cc0_scratch2) ↦{fullShare} f : sProp 𝕄) = ownsTc c rM fullShare f := (owns_whole _ _ _ _).symm
  simp only [h0, h1, h2]
  rfl

/-- Every schedule is over: the semaphores are plain counters at zero again. -/
theorem close_all : iprop(records m ρ K ∗ posAll c 1) ⊢ (|={Set.univ}=> zeros (F := F) c : sProp 𝕄) := by
  have h1 (x : Cx) : iprop(records m ρ K ∗ atPos ER (kcell (c, x)) 1 ∅ 0) ⊢ (|={Set.univ}=> semVal (kcell (c, x)) 0 : sProp 𝕄) := by
    iintro ⟨#HR, H⟩
    iapply (Rounds.cell_close ER (plan m ρ) (Set.mem_univ (K (c, x))) (fun h => h) (R := 0 + 1) (duties_later m ρ (kcell (c, x))))
    isplitr; · iapply (inv_at m ρ K (c, x)); iexact HR
    iexact H
  unfold posAll zeros
  exact (bigSep_with_persistent fun x _ => h1 x).trans (bigSep_fupd _ _)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xs m ρ c
    | ⟨1, _⟩ => w1s m ρ c
    | ⟨2, _⟩ => w2s m ρ c
    | ⟨3, _⟩ => outW m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem before_x (d) : (dats m ρ 0 c).before (0 : Fin 4) t0_0 d = xs m ρ c := by
  unfold Pipeline.Dat.before; rw [if_pos (fetch0_0 t0_0)]; rfl
theorem before_w1 (d) : (dats m ρ 0 c).before (1 : Fin 4) t0_0 d = w1s m ρ c := by
  unfold Pipeline.Dat.before; rw [if_pos (fetch0_1 t0_0)]; rfl
theorem before_w2 (d) : (dats m ρ 0 c).before (2 : Fin 4) t0_0 d = w2s m ρ c := by
  unfold Pipeline.Dat.before; rw [if_pos (fetch0_2 t0_0)]; rfl

def bodyPre : sProp 𝕄 :=
  iprop(Φ₀ m ρ c ∗ (dats m ρ 0 c).owesAt () t0_0.castSucc
    ∗ (∃ d, ownsTc c xM fullShare ((dats m ρ 0 c).before (0 : Fin 4) t0_0 d))
    ∗ (∃ d, ownsTc c w1M fullShare ((dats m ρ 0 c).before (1 : Fin 4) t0_0 d))
    ∗ (∃ d, ownsTc c w2M fullShare ((dats m ρ 0 c).before (2 : Fin 4) t0_0 d))
    ∗ (∃ d, ownsTc c oM fullShare ((dats m ρ 0 c).before (3 : Fin 4) t0_0 d)))
def bodyPost : sProp 𝕄 :=
  iprop(Φ₁ (F := F) c ∗ (dats m ρ 0 c).owesAt () t0_0.succ ∗ hX m ρ c ∗ hW1 m ρ c ∗ hW2 m ρ c ∗ ownsTc c oM fullShare (outW m ρ))

theorem sound_body : bodyPre m ρ c ⊢ WP c (cc0_body (F := F) xM (Memref.isWhole_whole _) w1M (Memref.isWhole_whole _) w2M (Memref.isWhole_whole _) oM (Memref.isWhole_whole _) pM (Memref.isWhole_whole _) bM (Memref.isWhole_whole _) rM (Memref.isWhole_whole _) cc0_scratch3 cc0_scratch4 cc0_scratch5 cc0_scratch6) (fun _ => bodyPost m ρ c) := by
  unfold bodyPre Φ₀ starts ghost
  rw [scratch_eq]
  iintro ⟨⟨⟨⟨%K, #HR, HT, Hpos⟩, Hcr, #Hlev⟩, HP, HB, Hr⟩, Ho, ⟨%d0, HX⟩, ⟨%d1, HW1⟩, ⟨%d2, HW2⟩, ⟨%d3, HM⟩⟩
  rw [before_x, before_w1, before_w2]
  unfold Pipeline.Dat.owesAt Pipeline.owesWithin
  icases Ho with ⟨%W, %hW, HO⟩
  rw [show (dats m ρ 0 c).owed t0_0.castSucc = O₀ c from rfl]
  ihave H := (start m ρ c) $$ [HO HT Hpos Hcr HX HW1 HW2 HM HP HB Hr]
  · isplitl [HO]; · unfold owesE; iexists W; iexact HO
    isplitl [HT]; · iexact HT
    isplitl [Hpos]; · iexact Hpos
    isplitl [Hcr]; · iexact Hcr
    isplitl [HX]; · iexact HX
    isplitl [HW1]; · iexact HW1
    isplitl [HW2]; · iexact HW2
    isplitl [HM]; · iexists _; iexact HM
    isplitl [HP]; · iexact HP
    isplitl [HB] <;> iassumption
  iapply wp_fupd
  iapply (body_run m ρ K c) $$ [H]
  · isplitr; · iexact HR
    isplitr; · iexact Hlev
    iexact H
  iintro H
  ihave H := (finish m ρ c) $$ H
  icases H with ⟨HO, Hpos, HX, HW1, HW2, HM, HS⟩
  imod (close_all m ρ K c) $$ [Hpos] with Hz
  · isplitr; · iexact HR
    iexact Hpos
  imodintro
  unfold bodyPost Φ₁ Pipeline.Dat.owesAt Pipeline.owesWithin owesE
  rw [show (dats m ρ 0 c).owed t0_0.succ = 0 from rfl, scratch_eq]
  icases HO with ⟨%W', HO⟩
  isplitl [HS Hz]
  · isplitl [HS] <;> iassumption
  isplitl [HO]
  · iexists W'
    isplitr; · ipureintro; exact fun _ _ => Or.inl trivial
    iexact HO
  isplitl [HX]; · iexact HX
  isplitl [HW1]; · iexact HW1
  isplitl [HW2]; · iexact HW2
  iexact HM

set_option maxRecDepth 4000 in
theorem body_obligation : Pipeline.BodyObligation (dats (F := F) m ρ 0 c) (defs₀ (F := F)) 𝒱₀ () Set.univ := fun t => by
  rw [show t = t0_0 from fin_N0 t]
  rw [bigSep_W0, bigSep_W0]
  exact sound_body m ρ c

end Cert.Mlp

end
-- ==== Proof.Launch.lean ====
/-
# The launch: what is dealt out at the start

All cells and duties are created at once, and each duty goes to the device that will discharge it.
-/
module

public import proofs.«01_k».proof.Proof.Body

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

theorem kcell_inj : Function.Injective kcell := by
  rintro ⟨c, x⟩ ⟨c', x'⟩ h
  have h1 : c = c' := congrArg (fun g : GSem nD τ sig => g.1.1) h
  subst h1
  have h2 : csem x = csem x' := congrArg Prod.snd h
  rcases x with ⟨⟩ | ⟨a, k⟩ <;> rcases x' with ⟨⟩ | ⟨a', k'⟩
  · rfl
  · cases h2
  · cases h2
  · obtain ⟨rfl, rfl⟩ := dmaS_inj (SemLoc.dma.inj h2)
    rfl
def allCells : Finset (GSem nD τ sig) := Finset.univ.map ⟨kcell, kcell_inj⟩

/-- The duties: seven on a barrier, one on each other semaphore. -/
abbrev Tx : Type := Fin 7 ⊕ (Fin 4 × Fin 7)
def tokOf (cj : Dev nD × Tx) : GSem nD τ sig × ℕ × Fin 7 :=
  match cj.2 with | .inl k => (barCell cj.1, 0, k) | .inr (a, k) => (dmaCell a cj.1 k, 0, 0)
theorem tokOf_inj : Function.Injective tokOf := by
  rintro ⟨c, j⟩ ⟨c', j'⟩ h
  rcases j with k | ⟨a, k⟩ <;> rcases j' with k' | ⟨a', k'⟩
  · have h1 : ((c, .inl ()) : Dev nD × Cx) = (c', .inl ()) := kcell_inj (congrArg Prod.fst h)
    have h2 : k = k' := congrArg (fun x => x.2.2) h
    rw [(Prod.mk.inj h1).1, h2]
  · have h1 : ((c, .inl ()) : Dev nD × Cx) = (c', .inr (a', k')) := kcell_inj (congrArg Prod.fst h)
    cases (Prod.mk.inj h1).2
  · have h1 : ((c, .inr (a, k)) : Dev nD × Cx) = (c', .inl ()) := kcell_inj (congrArg Prod.fst h)
    cases (Prod.mk.inj h1).2
  · have h1 : ((c, .inr (a, k)) : Dev nD × Cx) = (c', .inr (a', k')) := kcell_inj (congrArg Prod.fst h)
    rw [(Prod.mk.inj h1).1, Sum.inr.inj (Prod.mk.inj h1).2]
def allToks : Finset (GSem nD τ sig × ℕ × Fin 7) := Finset.univ.map ⟨tokOf, tokOf_inj⟩

def u₀ : UU :=
  (initOf (Pipeline.cells cfgs cellOf_inj) (Pipeline.launchToks cfgs cellOf_inj), initOf allCells allToks)

/-- The duties of one device's own cells. -/
abbrev tokD (a : Fin 4) (c : Dev nD) (k : Fin 7) : sProp 𝕄 := dutyTok ER (dmaCell a c k) 0 0
def ownToks : sProp 𝕄 :=
  iprop((bigSep Finset.univ fun k : Fin 7 => (dutyTok ER (barCell c) 0 k : sProp 𝕄))
    ∗ (bigSep Finset.univ (tokD 0 c)) ∗ (bigSep Finset.univ (tokD 1 c)) ∗ (bigSep Finset.univ (tokD 2 c)) ∗ bigSep Finset.univ (tokD 3 c))

/-- What device `c` is dealt, -/
def G : sProp 𝕄 :=
  iprop((bigSep Finset.univ fun x : Cx => roundState ER (plan m ρ) (kcell (c, x)) 0)
    ∗ (posAll c 0 ∗ bigSep Finset.univ fun x : Cx => (reached ER (kcell (c, x)) 0 : sProp 𝕄)) ∗ ownToks (F := F) c)
/-- and what becomes of it. -/
def G' : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : Cx => Φ (kcell (c, x)) := by
    unfold allCells; rw [bigSep_map, bigSep_univ_prod]; rfl
  have hT : bigSep allToks (fun x => (dutyTok ER x.1 x.2.1 x.2.2 : sProp 𝕄)) = bigSep Finset.univ (ownToks (F := F)) := by
    unfold allToks; rw [bigSep_map, bigSep_univ_prod]
    refine bigSep_congr fun c _ => ?_
    rw [bigSep_univ_sum, bigSep_univ_prod, four]
    rfl
  iintro HX
  imod (Rounds.fund ER (plan m ρ) allCells allToks) $$ HX with ⟨Hst, Hr, Hat, Htok⟩
  imodintro
  ihave Hst := (Entails.of_eq (hX fun g => roundState ER (plan m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posAll; simp only [bigSep_sep']
  isplitl [Hst]; · iexact Hst
  isplitl [Hat Hr]
  · isplitl [Hat] <;> iassumption
  iexact Htok

theorem sems0 : iprop(Pipeline.ownSems0 (Ix := Unit) (Name := ℕ) (U := UU) (Lvl := ℕ) (Val := Elt F) (τ := τ) osem c ∗ unscopedSems0 c)
    = (zeros c : sProp 𝕄) := by
  have hu : (unscopedSems0 c : sProp 𝕄) = semVal (barCell c) 0 := by
    unfold unscopedSems0; rw [bigSep_eq_bigSepL_of_eq [SemLoc.reg barS] (by decide) (by decide)]; rfl
  unfold zeros
  rw [hu, bigSep_univ_sum, show (bigSep Finset.univ fun a : Unit => (semVal (kcell (c, .inl a)) 0 : sProp 𝕄)) = semVal (barCell c) 0 from bigSep_singleton]
  exact Std.Commutative.comm (op := BI.sep) _ _

theorem core_alloc : iprop(Pipeline.ownSems0 (Ix := Unit) (Name := ℕ) (U := UU) (Lvl := ℕ) (Val := Elt F) (τ := τ) osem c ∗ unscopedSems0 c ∗ G m ρ c)
    ⊢ |={Set.univ}=> iprop((bigSep Finset.univ fun x : Cx => iprop(∃ κ : ℕ, cellInv ER (plan m ρ) κ (kcell (c, x))))
        ∗ (posAll c 0 ∗ bigSep Finset.univ fun x : Cx => (reached ER (kcell (c, x)) 0 : sProp 𝕄)) ∗ ownToks (F := F) c) := by
  unfold G
  iintro ⟨Hos, Hus, Hst, Hat, Htok⟩
  ihave Hv := (Entails.of_eq (sems0 (F := F) c)) $$ [Hos Hus]
  · isplitl [Hos] <;> iassumption
  imod (show iprop(zeros c ∗ bigSep Finset.univ fun x : Cx => roundState ER (plan m ρ) (kcell (c, x)) 0)
      ⊢ (|={Set.univ}=> bigSep Finset.univ fun x : Cx => iprop(∃ κ : ℕ, cellInv ER (plan m ρ) κ (kcell (c, x))) : sProp 𝕄) from by
        unfold zeros
        rw [← bigSep_sep']
        exact (bigSep_mono fun x _ => (Rounds.body_intro ER (plan m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over devices and places, each member taken by the device so many places before. -/
theorem around (Φ : Dev nD → Fin 7 → sProp 𝕄) :
    (bigSep Finset.univ fun c => bigSep Finset.univ fun k => Φ c k) = bigSep Finset.univ fun c => bigSep Finset.univ fun k => Φ (fwd c k) k := by
  rw [bigSep_univ_comm, bigSep_univ_comm (fun c k => Φ (fwd c k) k)]
  exact bigSep_congr fun k _ => bigSep_univ_equiv (turn k) (fun c => Φ c k)

theorem toks_around : bigSep Finset.univ (ownToks (F := F)) = bigSep Finset.univ fun c => iprop(barToks (F := F) c ∗ rsToks c ∗ agToks c) := by
  have hb : (bigSep Finset.univ fun c : Dev nD => bigSep Finset.univ fun k : Fin 7 => (dutyTok ER (barCell c) 0 k : sProp 𝕄))
      = bigSep Finset.univ (barToks (F := F)) := by
    rw [bigSep_congr (s := Finset.univ) fun (c : Dev nD) _ => bigSep_univ_equiv revE fun k : Fin 7 => (dutyTok ER (barCell c) 0 k : sProp 𝕄)]
    exact around fun c k => dutyTok ER (barCell c) 0 (rev k)
  have h (a b : Fin 4) : (bigSep Finset.univ fun c : Dev nD => bigSep Finset.univ fun k : Fin 7 => iprop(tokD (F := F) a c k ∗ tokD b (fwd c k) k))
      = iprop((bigSep Finset.univ fun c : Dev nD => bigSep Finset.univ (tokD (F := F) a c)) ∗ bigSep Finset.univ fun c : Dev nD => bigSep Finset.univ (tokD b c)) := by
    rw [bigSep_congr (s := Finset.univ) fun (c : Dev nD) _ => bigSep_sep' (Finset.univ : Finset (Fin 7)) (tokD (F := F) a c) fun k => tokD b (fwd c k) k,
      bigSep_sep', around fun c k => tokD b c k]
  have hr : bigSep Finset.univ (rsToks (F := F)) = iprop((bigSep Finset.univ fun c : Dev nD => bigSep Finset.univ (tokD (F := F) 0 c)) ∗ bigSep Finset.univ fun c : Dev nD => bigSep Finset.univ (tokD 1 c)) := h 0 1
  have ha : bigSep Finset.univ (agToks (F := F)) = iprop((bigSep Finset.univ fun c : Dev nD => bigSep Finset.univ (tokD (F := F) 2 c)) ∗ bigSep Finset.univ fun c : Dev nD => bigSep Finset.univ (tokD 3 c)) := h 2 3
  rw [bigSep_sep', bigSep_sep', hr, ha, ← hb]
  unfold ownToks
  rw [bigSep_sep', bigSep_sep', bigSep_sep', bigSep_sep']
  exact congrArg _ (Std.Associative.assoc (op := BI.sep) _ _ _).symm

theorem regroup : (bigSep Finset.univ fun c : Dev nD => iprop((bigSep Finset.univ fun x : Cx => iprop(∃ κ : ℕ, cellInv ER (plan m ρ) κ (kcell (c, x))))
        ∗ (posAll c 0 ∗ bigSep Finset.univ fun x : Cx => (reached ER (kcell (c, x)) 0 : sProp 𝕄)) ∗ ownToks (F := F) c))
    ⊢ bigSep Finset.univ (G' m ρ) := by
  have hg (K : Dev nD × Cx → ℕ) (c : Dev nD) : iprop(records m ρ K ∗ posAll c 0 ∗ barToks (F := F) c ∗ rsToks c ∗ agToks c) ⊢ G' m ρ c := by
    unfold G' ghost
    iintro ⟨#HR, Hp, HT⟩
    iexists K
    isplitr; · iexact HR
    isplitl [HT] <;> iassumption
  rw [bigSep_sep', bigSep_sep', bigSep_sep', toks_around, ← bigSep_univ_prod (fun ck : Dev nD × Cx => iprop(∃ κ : ℕ, cellInv ER (plan m ρ) κ (kcell ck))),
    ← bigSep_univ_prod (fun ck : Dev nD × Cx => (reached ER (kcell ck) 0 : sProp 𝕄))]
  iintro ⟨HI, ⟨Hat, #HR⟩, Htok⟩
  ihave HK := (BI.bigSep_exists_pi Finset.univ (fun (ck : Dev nD × Cx) (κ : ℕ) => (cellInv ER (plan m ρ) κ (kcell ck) : sProp 𝕄))) $$ HI
  icases HK with ⟨%K, #HI⟩
  iapply (bigSep_with_persistent (R := records m ρ K) (Φ := fun c => iprop(posAll c 0 ∗ barToks (F := F) c ∗ rsToks c ∗ agToks c)) fun c _ => hg K c)
  isplitr
  · unfold records; isplitl; · iexact HI
    iexact HR
  · iapply (Entails.of_eq (bigSep_sep' Finset.univ (fun c : Dev nD => posAll (F := F) c 0) fun c => iprop(barToks (F := F) c ∗ rsToks c ∗ agToks c)).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem tally_at (n : ℕ) (x y : Dev nD × Cx) : (tallyAt (kcell y) () n : Tal) (kcell x) () = if x = y then n else 0 := by
  rw [tallyAt_apply]
  by_cases h : x = y
  · rw [if_pos ⟨congrArg kcell h, rfl⟩, if_pos h]
  · rw [if_neg fun h' => h (kcell_inj h'.1), if_neg h]
theorem sum_at {I : Type} (s : Finset I) (f : I → Tal) (g : GSem nD τ sig) : (∑ i ∈ s, f i) g () = ∑ i ∈ s, f i g () := by
  rw [Finset.sum_apply, Finsupp.finset_sum_apply]
theorem count {I J : Type} [Fintype I] [Fintype J] (n : ℕ) (P : I × J → Prop) [DecidablePred P] :
    (∑ i : I, ∑ j : J, if P (i, j) then n else 0) = (Finset.univ.filter P).card * n := by
  rw [← Fintype.sum_prod_type' (fun i j => if P (i, j) then n else 0), ← Finset.sum_filter, Finset.sum_const, smul_eq_mul]

/-- How many devices owe cell `x` a signal, a partial product, finished rows. -/
def nB (x : Dev nD × Cx) : ℕ := (Finset.univ.filter fun p : Dev nD × Fin 7 => x = (fwd p.1 p.2, .inl ())).card
def nR (x : Dev nD × Cx) : ℕ := (Finset.univ.filter fun p : Dev nD × Dev nD => p.2 ≠ p.1 ∧ x = (p.2, .inr (1, slot p.1 p.2))).card
def nA (x : Dev nD × Cx) : ℕ := (Finset.univ.filter fun p : Dev nD × Fin 7 => x = (fwd p.1 p.2, .inr (3, p.2))).card

theorem owed_at (d : Dev nD) (x : Dev nD × Cx) : O₀ d (kcell x) ()
    = (∑ k : Fin 7, if x = (fwd d k, .inr (3, k)) then N else 0) + (∑ j : Dev nD, if j ≠ d ∧ x = (j, .inr (1, slot d j)) then N else 0)
      + ∑ k : Fin 7, if x = (fwd d k, .inl ()) then 1 else 0 := by
  unfold O₀ oweA oweR oweB
  rw [Finset.filter_true_of_mem fun _ _ => Nat.zero_le _, Finset.filter_true_of_mem fun _ _ => Nat.zero_le _]
  rw [Pi.add_apply, Finsupp.add_apply, Pi.add_apply, Finsupp.add_apply, sum_at, sum_at, sum_at]
  congr 1
  · congr 1
    · exact Finset.sum_congr rfl fun k _ => tally_at N x (fwd d k, .inr (3, k))
    · refine Finset.sum_congr rfl fun j _ => ?_
      by_cases h : j = d
      · rw [if_pos h, if_neg fun h' => h'.1 h]; rfl
      · rw [if_neg h]
        refine (tally_at N x (j, .inr (1, slot d j))).trans ?_
        by_cases h' : x = (j, .inr (1, slot d j))
        · rw [if_pos h', if_pos ⟨h, h'⟩]
        · rw [if_neg h', if_neg fun hh => h' hh.2]
  · exact Finset.sum_congr rfl fun k _ => tally_at 1 x (fwd d k, .inl ())

theorem owed_total (x : Dev nD × Cx) : (∑ d : Dev nD, O₀ d (kcell x) ()) = nA x * N + nR x * N + nB x := by
  rw [Finset.sum_congr rfl fun d _ => owed_at d x, Finset.sum_add_distrib, Finset.sum_add_distrib]
  rw [count N fun p : Dev nD × Fin 7 => x = (fwd p.1 p.2, .inr (3, p.2)), count N fun p : Dev nD × Dev nD => p.2 ≠ p.1 ∧ x = (p.2, .inr (1, slot p.1 p.2)),
    count 1 fun p : Dev nD × Fin 7 => x = (fwd p.1 p.2, .inl ()), mul_one]
  rfl

theorem launch_at (x : Dev nD × Cx) {n : ℕ} (h : nA x * N + nR x * N + nB x = n) :
    tallyOn (kcell x) (launchCredit (Pipeline.owing O₀) 0 (kcell x)) = (tallyAt (kcell x) () n : Tal) := by
  unfold tallyAt; refine congrArg _ (Finsupp.ext fun u => ?_); cases u
  rw [Pipeline.launchCredit_owing, Finsupp.single_eq_same, owed_total, h]

theorem total_bar : ∀ c : Dev nD, nA (c, .inl ()) = 0 ∧ nR (c, .inl ()) = 0 ∧ nB (c, .inl ()) = 7 := by decide +kernel
theorem total_1 : ∀ (c : Dev nD) (k : Fin 7), nA (c, .inr (1, k)) = 0 ∧ nR (c, .inr (1, k)) = 1 ∧ nB (c, .inr (1, k)) = 0 := by decide +kernel
theorem total_3 : ∀ (c : Dev nD) (k : Fin 7), nA (c, .inr (3, k)) = 1 ∧ nR (c, .inr (3, k)) = 0 ∧ nB (c, .inr (3, k)) = 0 := by decide +kernel

omit [FloatOps F] in
theorem csem_inj : Function.Injective csem := fun x y h => by
  have h' : kcell ((0 : Dev nD), x) = kcell (0, y) := congrArg (Prod.mk (((0 : Dev nD) : Thread nD τ))) h
  exact (Prod.mk.inj (kcell_inj h')).2

theorem creds_intro : (Pipeline.launchCred O₀ c : sProp 𝕄) ⊢ creds c := by
  have hall : (Pipeline.launchCred O₀ c : sProp 𝕄) ⊢ bigSep Finset.univ fun x : Cx => cred (tallyOn (kcell (c, x)) (launchCredit (Pipeline.owing O₀) 0 (kcell (c, x)))) := by
    unfold Pipeline.launchCred
    refine (show _ ⊢ bigSep (Finset.univ.map ⟨csem, csem_inj⟩) _ from bigSep_subset (Finset.subset_univ _)).trans ?_
    rw [bigSep_map]
    exact BI.Entails.refl _
  have hk (a : Fin 4) (h : ∀ k : Fin 7, nA (c, .inr (a, k)) * N + nR (c, .inr (a, k)) * N + nB (c, .inr (a, k)) = N) :
      (bigSep Finset.univ fun k : Fin 7 => (cred (tallyOn (kcell (c, .inr (a, k))) (launchCredit (Pipeline.owing O₀) 0 (kcell (c, .inr (a, k))))) : sProp 𝕄))
        = bigSep Finset.univ fun k : Fin 7 => cred (tallyAt (dmaCell a c k) () N) :=
    bigSep_congr fun k _ => congrArg cred (launch_at (c, .inr (a, k)) (h k))
  refine hall.trans ?_
  rw [bigSep_univ_sum, bigSep_univ_prod, four,
    hk 1 (fun k => by obtain ⟨h1, h2, h3⟩ := total_1 c k; rw [h1, h2, h3]; omega),
    hk 3 (fun k => by obtain ⟨h1, h2, h3⟩ := total_3 c k; rw [h1, h2, h3]; omega)]
  rw [show (bigSep Finset.univ fun a : Unit => (cred (tallyOn (kcell (c, .inl a)) (launchCredit (Pipeline.owing O₀) 0 (kcell (c, .inl a)))) : sProp 𝕄))
      = cred (tallyAt (barCell c) () 7) from bigSep_singleton.trans (congrArg cred (launch_at (c, .inl ()) (by obtain ⟨h1, h2, h3⟩ := total_bar c; rw [h1, h2, h3]; omega)))]
  unfold creds
  show iprop(_ ∗ _ ∗ _ ∗ _ ∗ _) ⊢ _
  iintro ⟨Hb, -, H1, -, H3⟩
  isplitl [Hb]; · iexact Hb
  isplitl [H1]; · iexact H1
  iexact H3

end Cert.Mlp

end
-- ==== Proof.Run.lean ====
/-
# The run

From any memory with all counters at zero, every fair run ends with the computed contents in each window's array and all
counters at zero.
-/
module

public import proofs.«01_k».proof.Proof.Launch
public import Idealize.ShloMosaic.Lib.Pipeline.CollectiveSegs

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ) (c : Dev nD)

theorem ownSemFacts : Pipeline.OwnSemFacts cfg0.spec osem := by decide +kernel

theorem share_eq (w : Fin cfg0.W) : (dats m ρ 0 c).share w = fullShare := by unfold Pipeline.Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(starts m ρ c ∗ emp) := by
  iintro ⟨-, Hlev, Hcr, -, HG⟩
  ihave Hc := (creds_intro (F := F) c) $$ Hcr
  imodintro
  unfold starts G'
  isplitl
  · isplitl [HG]; · iexact HG
    isplitl [Hc]; · iexact Hc
    iexact Hlev
  · iempintro

theorem phi_in :
    iprop(starts m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi_out :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [← sems0]
  iintro ⟨Hr, Ho, Hu⟩
  isplitl [Hu]; · iexact Hu
  isplitl [Ho] <;> iassumption

theorem waits : (levAts L lv : sProp 𝕄) ⊢ Pipeline.cellsWaits cfgs (dats m ρ) () 0 c :=
  Pipeline.cellsWaits_intro cfgs (dats m ρ) () 0 c fun w s t => by
    have hs : role (.dma ((cfg0.win w).sem s)) = .other := role_stage _ (by fin_cases w <;> fin_cases s <;> decide)
    have hl : lv ((c : Thread nD τ), .dma ((cfg0.win w).sem s)) () ≤ 0 := by unfold lv; rw [hs]
    refine mayWait c _ _ hl ?_
    rcases t with ⟨_ | _, ht⟩
    · exact above_O₀ c
    · exact Above.zero 0

/-- What window `w`'s array holds after the run. -/
def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := starts m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold what they held. -/
theorem finalA_0 : finalA m ρ c (0 : Fin 4) = (s₀ m ρ).mem (win0_0.arr.view.loc (c : Thread nD τ)) := (dats (F := F) m ρ 0 c).arrAt_in (0 : Fin 4) rfl _
theorem finalA_1 : finalA m ρ c (1 : Fin 4) = (s₀ m ρ).mem (win0_1.arr.view.loc (c : Thread nD τ)) := (dats (F := F) m ρ 0 c).arrAt_in (1 : Fin 4) rfl _
theorem finalA_2 : finalA m ρ c (2 : Fin 4) = (s₀ m ρ).mem (win0_2.arr.view.loc (c : Thread nD τ)) := (dats (F := F) m ρ 0 c).arrAt_in (2 : Fin 4) rfl _

end Cert.Mlp

end
-- ==== Proof.Frames.lean ====
/-
# What the runs leave

The argument arrays end as they began and the counters end at zero, for the kernel over the machine's floats, for the
kernel over the extended reals, and for the reference.
-/
module

public import proofs.«01_k».proof.Proof.Run
public import proofs.«01_k».proof.Proof.Gen.ReferenceIdeal.Run
public import proofs.«01_k».proof.Proof.Gen.Kernel
public import proofs.«01_k».proof.Proof.Gen.ReferenceIdeal
public import proofs.«01_k».proof.Defs

@[expose] public section

noncomputable section

namespace Cert.Mlp

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A final state of the run holds the launch contents in the three argument arrays. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h c (0 : Fin 4)).trans (finalA_0 m ρ c), (h c (1 : Fin 4)).trans (finalA_1 m ρ c), (h c (2 : Fin 4)).trans (finalA_2 m ρ c)⟩

/-- The kernel runs, keeps its arguments and returns every counter to zero, over any float values. -/
theorem frame_any :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept m ρ h.1, h.2⟩) (run_main m ρ)

theorem frame_kernelIdeal : Cert.quiescent_KernelIdeal := fun m ρ _ => frame_any m ρ

set_option maxRecDepth 30000 in
/-- The kernel's two printings are one text: their body tables agree, -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- so the programs' tables agree, -/
theorem defs_eq : Cert.Kernel.defs (F := F) = Cert.KernelIdeal.defs (F := F) :=
  congrArg (Pipeline.defs (Cert.KernelIdeal.pcfgs (F := F))) defs₀_eq

/-- and the run over the machine's floats is the same run. -/
theorem frame_kernel : Cert.quiescent_Kernel := fun m ρ _ => by
  rw [defs_eq]
  exact frame_any (F := Bits) m ρ

/-- The reference declares no semaphore, and its run leaves its arguments alone. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Mlp

end
-- ==== Proof.Final.lean ====
/-
# The result array

The kernel's one grid point writes its whole result window back, so the result array of every device ends holding the
contents that the window ended with.
-/
module

public import proofs.«01_k».proof.Proof.Frames
public import Idealize.ShloMosaic.Lib.Pipeline.ValueKit

@[expose] public section

noncomputable section

namespace Cert.Mlp

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result array ends holding the gathered rows. -/
theorem final_out (c : Dev nD) : finalA m ρ c (3 : Fin 4) = outW m ρ := by
  refine (dats m ρ 0 c).arrAt_eq_of_after_last (3 : Fin 4) t0_0 (by decide +kernel) _ fun j => ?_
  blk_simp
  rfl

theorem index_x : ∀ a, win0_0.index (0 : Fin 1) a = 0 := by decide +kernel
theorem index_w1 : ∀ a, win0_1.index (0 : Fin 1) a = 0 := by decide +kernel
theorem index_w2 : ∀ a, win0_2.index (0 : Fin 1) a = 0 := by decide +kernel

/-- What a device reads of each argument is the whole argument array. -/
theorem xs_eq (c : Dev nD) : xs m ρ c = m (c.tc.loc main_arg0) :=
  funext fun _ => congrArg (m (c.tc.loc main_arg0)) (funext fun a => Fin.ext (win0_0.rect_emb_val_of_index_zero (0 : Fin 1) a (index_x a) _))
theorem w1s_eq (c : Dev nD) : w1s m ρ c = m (c.tc.loc main_arg1) :=
  funext fun _ => congrArg (m (c.tc.loc main_arg1)) (funext fun a => Fin.ext (win0_1.rect_emb_val_of_index_zero (0 : Fin 1) a (index_w1 a) _))
theorem w2s_eq (c : Dev nD) : w2s m ρ c = m (c.tc.loc main_arg2) :=
  funext fun _ => congrArg (m (c.tc.loc main_arg2)) (funext fun a => Fin.ext (win0_2.rect_emb_val_of_index_zero (0 : Fin 1) a (index_w2 a) _))

/-- The run, read at the result and at the arguments of every device. -/
theorem run_out :
    θ_run (defs (F := F)) (onTc (τ := τ) (main (F := F))) ⟨m, fun _ => 0, ρ⟩ (fun r => ∀ c : Dev nD,
      r.2.mem ((c.tc : Thread nD τ).loc main_v1) = outW m ρ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c (3 : Fin 4)).trans (final_out m ρ c), args_kept m ρ h.1 c⟩) (run_main m ρ)

end Cert.Mlp

end
-- ==== Proof.Product.lean ====
/-
# What one device computes

Over the extended reals, where a change of format changes nothing, a device's partial product for a block of rows is the
sum over its hidden units of the unit's rectified value times the unit's row of the second weight matrix.
-/
module

public import proofs.«01_k».proof.Proof.Final
public import Idealize.ShloMosaic.Lib.Pointwise

@[expose] public section

noncomputable section

namespace Cert.Mlp

open Cert.KernelIdeal Cert.KernelIdeal.Gen
open Idealize.ShloMosaic Idealize.ShloMosaic.TcCoe

/-- The rectified value of one hidden unit at one row of the input. -/
def unit {R K : ℕ} (x : FVec Ideal ⟨2, ![R, 768]⟩ .bf16) (w : FVec Ideal ⟨2, ![768, K]⟩ .bf16) (r : Fin R) (k : Fin K) : EReal :=
  max (∑ d : Fin 768, x (ix2 r d) * w (ix2 d k)) 0

/-- The two layers with `K` hidden units, at one element of the result. -/
def mlp {R K : ℕ} (x : FVec Ideal ⟨2, ![R, 768]⟩ .bf16) (w₁ : FVec Ideal ⟨2, ![768, K]⟩ .bf16) (w₂ : FVec Ideal ⟨2, ![K, 768]⟩ .bf16)
    (r : Fin R) (l : Fin 768) : EReal :=
  ∑ k : Fin K, unit x w₁ r k * w₂ (ix2 k l)

set_option maxRecDepth 16384 in
/-- The kernel's product of a block of 96 rows. -/
theorem pay7_apply (x : FVec Ideal S96x768 .bf16) (w₁ : FVec Ideal S768x1536 .bf16) (w₂ : FVec Ideal S1536x768 .bf16)
    (r : Fin 96) (l : Fin 768) : k0_pay7 (F := Ideal) (k0_pay1 w₁) (k0_pay2 w₂) x (ix2 r l) = mlp x w₁ w₂ r l := by
  unfold mlp unit
  pointwise [k0_pay7, k0_pay6, k0_pay1, k0_pay2]

set_option maxRecDepth 16384 in
/-- The same, rounded for sending. -/
theorem pay8_apply (x : FVec Ideal S96x768 .bf16) (w₁ : FVec Ideal S768x1536 .bf16) (w₂ : FVec Ideal S1536x768 .bf16)
    (r : Fin 96) (l : Fin 768) : k0_pay8 (F := Ideal) (k0_pay1 w₁) (k0_pay2 w₂) x (ix2 r l) = mlp x w₁ w₂ r l := by
  unfold mlp unit
  pointwise [k0_pay8, k0_pay6, k0_pay1, k0_pay2]

end Cert.Mlp

end
-- ==== Proof.Devices.lean ====
/-
# The sum over the devices

A device adds to its own partial product those of the seven others; together the devices hold every hidden unit once.
-/
module

public import proofs.«01_k».proof.Proof.Product
public import Idealize.ShloMosaic.Lib.Layout

@[expose] public section

noncomputable section

namespace Cert.Mlp

open Cert.KernelIdeal Cert.KernelIdeal.Gen
open Idealize.ShloMosaic Idealize.ShloMosaic.TcCoe

variable (m : (ℓ : Loc nD τ sig) → Buf (Elt Ideal) ℓ) (ρ : Dev nD → PrngReg)

theorem bwd_inj (c : Dev nD) : Function.Injective (bwd c) := by revert c; decide
theorem others (c : Dev nD) : Finset.univ.erase c = Finset.univ.image (bwd c) := by revert c; decide

/-- All devices are one device and the seven behind it. -/
theorem sum_devices (f : Dev nD → EReal) (c : Dev nD) : ∑ d, f d = f c + ∑ n : Fin 7, f (bwd c n) := by
  rw [← Finset.add_sum_erase _ f (Finset.mem_univ c), others, Finset.sum_image (bwd_inj c).injOn]

/-- Row `r` of device `j`'s block of 96, in the whole array. -/
def row (j : Dev nD) (r : Fin 96) : Fin 768 := ⟨96 * j.val + r.val, by have := j.isLt; have : nD = 8 := rfl; omega⟩

theorem rowR_emb (j : Dev nD) (r : Fin 96) (l : Fin 768) : (rowR j).emb (ix2 r l) = ix2 (row j r) l := by
  funext a; apply Fin.ext
  fin_cases a
  · simp [rowR, row]
  · simp [rowR]

/-- A block of rows of the product is the product of the block of rows. -/
theorem mlp_rows {K : ℕ} (x : FVec Ideal S768x768 .bf16) (w₁ : FVec Ideal ⟨2, ![768, K]⟩ .bf16) (w₂ : FVec Ideal ⟨2, ![K, 768]⟩ .bf16)
    (j : Dev nD) (r : Fin 96) (l : Fin 768) :
    mlp (R := 96) (fun i => x ((rowR j).emb i)) w₁ w₂ r l = mlp x w₁ w₂ (row j r) l := by
  unfold mlp unit
  simp only [rowR_emb]

theorem part_apply (c j : Dev nD) (r : Fin 96) (l : Fin 768) :
    part m ρ c j (ix2 r l) = mlp (xs m ρ c) (w1s m ρ c) (w2s m ρ c) (row j r) l :=
  (pay7_apply _ _ _ r l).trans (mlp_rows _ _ _ j r l)

theorem partB_apply (c j : Dev nD) (r : Fin 96) (l : Fin 768) :
    partB m ρ c j (ix2 r l) = mlp (xs m ρ c) (w1s m ρ c) (w2s m ρ c) (row j r) l :=
  (pay8_apply _ _ _ r l).trans (mlp_rows _ _ _ j r l)

/-- A device's reduced block of rows is the sum of all devices' partial products. -/
theorem red_apply (c : Dev nD) (r : Fin 96) (l : Fin 768) :
    red m ρ c (ix2 r l) = ∑ d : Dev nD, mlp (xs m ρ d) (w1s m ρ d) (w2s m ρ d) (row c r) l := by
  rw [sum_devices _ c, Fin.sum_univ_seven]
  simp only [← add_assoc, ← partB_apply, ← part_apply]
  rfl

/-- A sum over 8 blocks of 1536 is the sum over 12288. -/
theorem sum_blocks (f : Fin 12288 → EReal) :
    ∑ d : Fin 8, ∑ k : Fin 1536, f ⟨d.val * 1536 + k.val, by omega⟩ = ∑ k : Fin 12288, f k := by
  rw [← Fintype.sum_prod_type', ← Equiv.sum_comp (finProdFinEquiv (m := 8) (n := 1536)) f]
  refine Finset.sum_congr rfl fun p _ => congrArg f (Fin.ext ?_)
  show p.1.val * 1536 + p.2.val = p.2.val + 1536 * p.1.val
  omega

theorem cut_cols : Layout.Tiles ⟨2, ![768, 1536]⟩ ⟨2, ![768, 12288]⟩ 1 8 := by decide
theorem cut_rows : Layout.Tiles ⟨2, ![1536, 768]⟩ ⟨2, ![12288, 768]⟩ 0 8 := by decide

/-- The devices' products over their blocks of the hidden units add up to the product over all hidden units. -/
theorem mlp_blocks (x : FVec Ideal S768x768 .bf16) (w₁ : FVec Ideal ⟨2, ![768, 12288]⟩ .bf16) (w₂ : FVec Ideal ⟨2, ![12288, 768]⟩ .bf16)
    (r : Fin 768) (l : Fin 768) :
    ∑ d : Fin 8, mlp x (Layout.block ⟨2, ![768, 1536]⟩ ⟨2, ![768, 12288]⟩ 1 8 d w₁) (Layout.block ⟨2, ![1536, 768]⟩ ⟨2, ![12288, 768]⟩ 0 8 d w₂) r l
      = mlp x w₁ w₂ r l := by
  unfold mlp unit
  rw [← sum_blocks]
  refine Finset.sum_congr rfl fun d _ => Finset.sum_congr rfl fun k _ => ?_
  have e₁ (i : Fin 768) : cut_cols.idx d (ix2 i k) = ix2 i ⟨d.val * 1536 + k.val, by omega⟩ := by
    funext a; apply Fin.ext
    fin_cases a
    · exact (Layout.idx_cols_val cut_cols d (ix2 i k)).1
    · exact (Layout.idx_cols_val cut_cols d (ix2 i k)).2
  have e₂ : cut_rows.idx d (ix2 k l) = ix2 ⟨d.val * 1536 + k.val, by omega⟩ l := by
    funext a; apply Fin.ext
    fin_cases a
    · exact (Layout.idx_rows_val cut_rows d (ix2 k l)).1
    · exact (Layout.idx_rows_val cut_rows d (ix2 k l)).2
  simp only [Layout.block_apply _ _ cut_cols, Layout.block_apply _ _ cut_rows, e₁, e₂]

end Cert.Mlp

end
-- ==== Proof.Reference.lean ====
/-
# What the reference computes

Over the extended reals the reference's result is, at every element, the two layers over all the hidden units.
-/
module

public import proofs.«01_k».proof.Proof.Product
public import proofs.«01_k».proof.Proof.Gen.ReferenceIdeal.Run

@[expose] public section

noncomputable section

namespace Cert.Mlp

open Cert.ReferenceIdeal Cert.ReferenceIdeal.Gen
open Idealize.ShloMosaic Idealize.ShloMosaic.TcCoe Idealize.SL.Sem

/-- The two layers, as a whole array. -/
def mlpArr (x : FVec Ideal ⟨2, ![768, 768]⟩ .bf16) (w₁ : FVec Ideal ⟨2, ![768, 12288]⟩ .bf16) (w₂ : FVec Ideal ⟨2, ![12288, 768]⟩ .bf16) :
    FVec Ideal ⟨2, ![768, 768]⟩ .bf16 :=
  fun i => mlp x w₁ w₂ (i 0) (i 1)

set_option maxRecDepth 16384 in
/-- The reference's operations, composed, are the two layers. -/
theorem ref_eq (x : FVec Ideal S768x768 .bf16) (w₁ : FVec Ideal S768x12288 .bf16) (w₂ : FVec Ideal S12288x768 .bf16) :
    (truncf .bf16 (Host.dotGeneral dot_S768x12288_S12288x768_S768x768_1_0_0_1_n_n none
        (maximumf (extf .f32 (truncf .bf16 (Host.dotGeneral dot_S768x768_S768x12288_S768x12288_1_0_0_1_n_n none (extf .f32 x bitsLt_bf16_f32) (extf .f32 w₁ bitsLt_bf16_f32)) bitsLt_bf16_f32) bitsLt_bf16_f32)
          (broadcastInDim S768x12288 ![] bcast_S_S768x12288 (constant S_ .f32 0x00000000#32)))
        (extf .f32 w₂ bitsLt_bf16_f32)) bitsLt_bf16_f32 : FVec Ideal S768x768 .bf16) = mlpArr x w₁ w₂ := by
  funext j
  unfold mlpArr mlp unit
  pointwise

end Cert.Mlp

end
-- ==== Proof.Equation.lean ====
/-
# The equation

What every device's result array ends holding is the reference's result.
-/
module

public import proofs.«01_k».proof.Proof.Devices
public import proofs.«01_k».proof.Proof.Reference

@[expose] public section

noncomputable section

namespace Cert.Mlp

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every row of the result lies in one device's block of rows. -/
theorem exists_row (i : S768x768.Idx) : ∃ (j : Dev nD) (r : Fin 96) (l : Fin 768), i = ix2 (row j r) l := by
  have h0 : (i 0).val < 768 := (i 0).isLt
  refine ⟨⟨(i 0).val / 96, ?_⟩, ⟨(i 0).val % 96, Nat.mod_lt _ (by decide)⟩, i 1, ?_⟩
  · show (i 0).val / 96 < 8
    omega
  · conv_lhs => rw [eq_ix2 i]
    refine congrArg (fun a => ix2 a (i 1)) (Fin.ext ?_)
    show (i 0).val = 96 * ((i 0).val / 96) + (i 0).val % 96
    omega

/-- The gathered result is the two layers of the whole arrays, if the devices hold the input and their blocks of the
weight matrices. -/
theorem out_eq (x : FVec Ideal S768x768 .bf16) (w₁ : FVec Ideal ⟨2, ![768, 12288]⟩ .bf16) (w₂ : FVec Ideal ⟨2, ![12288, 768]⟩ .bf16)
    (h0 : ∀ c : Dev nD, m ((c.tc : Thread nD τ).loc main_arg0) = x)
    (h1 : ∀ c : Dev nD, m ((c.tc : Thread nD τ).loc main_arg1) = Layout.block ⟨2, ![768, 1536]⟩ ⟨2, ![768, 12288]⟩ 1 8 c w₁)
    (h2 : ∀ c : Dev nD, m ((c.tc : Thread nD τ).loc main_arg2) = Layout.block ⟨2, ![1536, 768]⟩ ⟨2, ![12288, 768]⟩ 0 8 c w₂) :
    outW m ρ = mlpArr x w₁ w₂ := by
  funext i
  obtain ⟨j, r, l, rfl⟩ := exists_row i
  rw [← rowR_emb, outW_at, red_apply, rowR_emb]
  refine Eq.trans ?_ (mlp_blocks x w₁ w₂ (row j r) l)
  refine Finset.sum_congr rfl fun d _ => ?_
  rw [xs_eq, w1s_eq, w2s_eq, h0, h1, h2]

theorem algebraic : Cert.algebraic_KernelIdeal_ReferenceIdeal := by
  intro m ρ m' ρ' _ h
  refine ⟨mlpArr _ _ _, (θ_run defs _ _).mono (fun r hr c => ⟨(hr c).1.trans (out_eq m ρ _ _ _ (fun c => (h c).1) (fun c => (h c).2.1) (fun c => (h c).2.2)), (hr c).2⟩)
      (run_out m ρ),
    (θ_run Cert.ReferenceIdeal.defs _ _).mono (fun r hr => ⟨(hr 0).1.trans (ref_eq _ _ _), (hr 0).2⟩) (Cert.ReferenceIdeal.Value.run (F := Ideal) m' ρ')⟩

end Cert.Mlp

end
-- ==== Proof.lean ====
/-
# The certificate

The kernel runs, keeps its arguments and returns every counter to zero, over the machine's floats and over the extended
reals; so does the reference; the kernel's text is unchanged between the two readings; and over the extended reals every
device's result is the reference's.
-/
module

public import proofs.«01_k».proof.Defs
public import proofs.«01_k».proof.Proof.Frames
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts,
    Cert.Mlp.frame_kernel, Cert.Mlp.frame_kernelIdeal, Cert.Mlp.frame_reference, trivial, Cert.Mlp.algebraic⟩

end Cert.Proof

end
